-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_and_finite [hPre_binary_and_finite : Cert.Pre_binary_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_binary_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_and_finite [hPre_binary_and_finite : Cert.Pre_binary_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_binary_and_finite [hKernelIdeal : Cert.KernelIdeal.Facts] [hPre_binary_and_finite : Cert.Pre_binary_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_binary_and_finite [hReferenceIdeal : Cert.ReferenceIdeal.Facts] [hPre_binary_and_finite : Cert.Pre_binary_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_binary_and_finite [hKernelIdeal : Cert.KernelIdeal.Facts] [hReferenceIdeal : Cert.ReferenceIdeal.Facts] [hPre_binary_and_finite : Cert.Pre_binary_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v165) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_binary_and_finite : Cert.Pre_binary_and_finite.Facts),
    quiescent_Kernel (hKernel := hKernel)
    ∧ quiescent_KernelIdeal (hKernelIdeal := hKernelIdeal)
    ∧ quiescent_KernelIdeal_pre_binary_and_finite (hKernelIdeal := hKernelIdeal) (hPre_binary_and_finite := hPre_binary_and_finite)
    ∧ quiescent_ReferenceIdeal (hReferenceIdeal := hReferenceIdeal)
    ∧ quiescent_ReferenceIdeal_pre_binary_and_finite (hReferenceIdeal := hReferenceIdeal) (hPre_binary_and_finite := hPre_binary_and_finite)
    ∧ preserves_Kernel_KernelIdeal
    ∧ algebraic_KernelIdeal_ReferenceIdeal_pre_binary_and_finite (hKernelIdeal := hKernelIdeal) (hReferenceIdeal := hReferenceIdeal) (hPre_binary_and_finite := hPre_binary_and_finite)
-- ==== Pre_binary_and_finite.lean ====
abbrev S256x200x7 : Shape := ⟨3, ![256, 200, 7]⟩
abbrev S256x200x4 : Shape := ⟨3, ![256, 200, 4]⟩
abbrev S17x512 : Shape := ⟨2, ![17, 512]⟩
abbrev S7x512 : Shape := ⟨2, ![7, 512]⟩
abbrev S2x512 : Shape := ⟨2, ![2, 512]⟩
abbrev S8x512 : Shape := ⟨2, ![8, 512]⟩
abbrev S4x512 : Shape := ⟨2, ![4, 512]⟩
abbrev S512x512 : Shape := ⟨2, ![512, 512]⟩
abbrev S512 : Shape := ⟨1, ![512]⟩
abbrev S6x512 : Shape := ⟨2, ![6, 512]⟩
abbrev S_ : Shape := ⟨0, ![]⟩

class Facts : Prop where
  bcast_S_S256x200x7 : S_.BroadcastsInDim S256x200x7 (![] : Fin 0 → Fin S256x200x7.rank)
  reducesTo_S256x200x7_S_d0_1_2 : S256x200x7.ReducesTo [0, 1, 2] S_
  h_S_ : 0 < S_.numel
  bcast_S_S256x200x4 : S_.BroadcastsInDim S256x200x4 (![] : Fin 0 → Fin S256x200x4.rank)
  reducesTo_S256x200x4_S_d0_1_2 : S256x200x4.ReducesTo [0, 1, 2] S_
  slices_S17x512_S2x512_0_0 : S17x512.Slices ![0, 0] S2x512
  bcast_S_S2x512 : S_.BroadcastsInDim S2x512 (![] : Fin 0 → Fin S2x512.rank)
  reducesTo_S2x512_S_d0_1 : S2x512.ReducesTo [0, 1] S_
  slices_S7x512_S2x512_0_0 : S7x512.Slices ![0, 0] S2x512
  slices_S8x512_S2x512_0_0 : S8x512.Slices ![0, 0] S2x512
  slices_S4x512_S2x512_0_0 : S4x512.Slices ![0, 0] S2x512
  slices_S6x512_S2x512_0_0 : S6x512.Slices ![0, 0] S2x512

variable [Facts]

def fn_part4 {F : FTy → Type} [FloatOps F] (main_v68 : IVec S_ 1) (main_v69 : FVec F S2x512 .f32) : IVec S_ 1 :=
  let main_v70 : FVec F S2x512 .f32 := Host.absf main_v69
  let main_cst_24 : FVec F S_ .f32 := constant S_ .f32 0x7F800000#32
  let main_v71 : FVec F S2x512 .f32 := broadcastInDim S2x512 ![] bcast_S_S2x512 main_cst_24
  let main_v72 : IVec S2x512 1 := cmpf .olt main_v70 main_v71
  let main_c_25 : IVec S_ 1 := constantI S_ 1 1#1
  let main_v73 : IVec S_ 1 := (fun x v => Host.reduce IntOp.andi x v reducesTo_S2x512_S_d0_1 h_S_) main_v72 main_c_25
  let main_v74 : IVec S_ 1 := andi main_v68 main_v73
  main_v74

def fn_part3 {F : FTy → Type} [FloatOps F] (main_arg13 : FVec F S6x512 .f32) (main_arg14 : FVec F S2x512 .f32) (main_arg15 : FVec F S2x512 .f32) (main_arg16 : FVec F S6x512 .f32) (main_v46 : IVec S_ 1) (main_v51 : IVec S_ 1) : IVec S_ 1 :=
  let main_v52 : IVec S_ 1 := andi main_v46 main_v51
  let main_v53 : FVec F S2x512 .f32 := (extractStridedSlice S2x512 ![0, 0] · slices_S6x512_S2x512_0_0) main_arg13
  let main_v54 : FVec F S2x512 .f32 := Host.absf main_v53
  let main_cst_18 : FVec F S_ .f32 := constant S_ .f32 0x7F800000#32
  let main_v55 : FVec F S2x512 .f32 := broadcastInDim S2x512 ![] bcast_S_S2x512 main_cst_18
  let main_v56 : IVec S2x512 1 := cmpf .olt main_v54 main_v55
  let main_c_19 : IVec S_ 1 := constantI S_ 1 1#1
  let main_v57 : IVec S_ 1 := (fun x v => Host.reduce IntOp.andi x v reducesTo_S2x512_S_d0_1 h_S_) main_v56 main_c_19
  let main_v58 : IVec S_ 1 := andi main_v52 main_v57
  let main_v59 : FVec F S2x512 .f32 := Host.absf main_arg14
  let main_cst_20 : FVec F S_ .f32 := constant S_ .f32 0x7F800000#32
  let main_v60 : FVec F S2x512 .f32 := broadcastInDim S2x512 ![] bcast_S_S2x512 main_cst_20
  let main_v61 : IVec S2x512 1 := cmpf .olt main_v59 main_v60
  let main_c_21 : IVec S_ 1 := constantI S_ 1 1#1
  let main_v62 : IVec S_ 1 := (fun x v => Host.reduce IntOp.andi x v reducesTo_S2x512_S_d0_1 h_S_) main_v61 main_c_21
  let main_v63 : IVec S_ 1 := andi main_v58 main_v62
  let main_v64 : FVec F S2x512 .f32 := Host.absf main_arg15
  let main_cst_22 : FVec F S_ .f32 := constant S_ .f32 0x7F800000#32
  let main_v65 : FVec F S2x512 .f32 := broadcastInDim S2x512 ![] bcast_S_S2x512 main_cst_22
  let main_v66 : IVec S2x512 1 := cmpf .olt main_v64 main_v65
  let main_c_23 : IVec S_ 1 := constantI S_ 1 1#1
  let main_v67 : IVec S_ 1 := (fun x v => Host.reduce IntOp.andi x v reducesTo_S2x512_S_d0_1 h_S_) main_v66 main_c_23
  let main_v68 : IVec S_ 1 := andi main_v63 main_v67
  let main_v69 : FVec F S2x512 .f32 := (extractStridedSlice S2x512 ![0, 0] · slices_S6x512_S2x512_0_0) main_arg16
  fn_part4 (F := F) main_v68 main_v69

def fn_part2 {F : FTy → Type} [FloatOps F] (main_arg6 : FVec F S2x512 .f32) (main_arg7 : FVec F S4x512 .f32) (main_arg8 : FVec F S7x512 .f32) (main_arg13 : FVec F S6x512 .f32) (main_arg14 : FVec F S2x512 .f32) (main_arg15 : FVec F S2x512 .f32) (main_arg16 : FVec F S6x512 .f32) (main_v29 : IVec S_ 1) (main_v33 : IVec S2x512 1) (main_c_11 : IVec S_ 1) : IVec S_ 1 :=
  let main_v34 : IVec S_ 1 := (fun x v => Host.reduce IntOp.andi x v reducesTo_S2x512_S_d0_1 h_S_) main_v33 main_c_11
  let main_v35 : IVec S_ 1 := andi main_v29 main_v34
  let main_v36 : FVec F S2x512 .f32 := Host.absf main_arg6
  let main_cst_12 : FVec F S_ .f32 := constant S_ .f32 0x7F800000#32
  let main_v37 : FVec F S2x512 .f32 := broadcastInDim S2x512 ![] bcast_S_S2x512 main_cst_12
  let main_v38 : IVec S2x512 1 := cmpf .olt main_v36 main_v37
  let main_c_13 : IVec S_ 1 := constantI S_ 1 1#1
  let main_v39 : IVec S_ 1 := (fun x v => Host.reduce IntOp.andi x v reducesTo_S2x512_S_d0_1 h_S_) main_v38 main_c_13
  let main_v40 : IVec S_ 1 := andi main_v35 main_v39
  let main_v41 : FVec F S2x512 .f32 := (extractStridedSlice S2x512 ![0, 0] · slices_S4x512_S2x512_0_0) main_arg7
  let main_v42 : FVec F S2x512 .f32 := Host.absf main_v41
  let main_cst_14 : FVec F S_ .f32 := constant S_ .f32 0x7F800000#32
  let main_v43 : FVec F S2x512 .f32 := broadcastInDim S2x512 ![] bcast_S_S2x512 main_cst_14
  let main_v44 : IVec S2x512 1 := cmpf .olt main_v42 main_v43
  let main_c_15 : IVec S_ 1 := constantI S_ 1 1#1
  let main_v45 : IVec S_ 1 := (fun x v => Host.reduce IntOp.andi x v reducesTo_S2x512_S_d0_1 h_S_) main_v44 main_c_15
  let main_v46 : IVec S_ 1 := andi main_v40 main_v45
  let main_v47 : FVec F S2x512 .f32 := (extractStridedSlice S2x512 ![0, 0] · slices_S7x512_S2x512_0_0) main_arg8
  let main_v48 : FVec F S2x512 .f32 := Host.absf main_v47
  let main_cst_16 : FVec F S_ .f32 := constant S_ .f32 0x7F800000#32
  let main_v49 : FVec F S2x512 .f32 := broadcastInDim S2x512 ![] bcast_S_S2x512 main_cst_16
  let main_v50 : IVec S2x512 1 := cmpf .olt main_v48 main_v49
  let main_c_17 : IVec S_ 1 := constantI S_ 1 1#1
  let main_v51 : IVec S_ 1 := (fun x v => Host.reduce IntOp.andi x v reducesTo_S2x512_S_d0_1 h_S_) main_v50 main_c_17
  fn_part3 (F := F) main_arg13 main_arg14 main_arg15 main_arg16 main_v46 main_v51

def fn_part1 {F : FTy → Type} [FloatOps F] (main_arg3 : FVec F S7x512 .f32) (main_arg4 : FVec F S2x512 .f32) (main_arg5 : FVec F S8x512 .f32) (main_arg6 : FVec F S2x512 .f32) (main_arg7 : FVec F S4x512 .f32) (main_arg8 : FVec F S7x512 .f32) (main_arg13 : FVec F S6x512 .f32) (main_arg14 : FVec F S2x512 .f32) (main_arg15 : FVec F S2x512 .f32) (main_arg16 : FVec F S6x512 .f32) (main_v12 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v12 main_v17
  let main_v19 : FVec F S2x512 .f32 := (extractStridedSlice S2x512 ![0, 0] · slices_S7x512_S2x512_0_0) main_arg3
  let main_v20 : FVec F S2x512 .f32 := Host.absf main_v19
  let main_cst_6 : FVec F S_ .f32 := constant S_ .f32 0x7F800000#32
  let main_v21 : FVec F S2x512 .f32 := broadcastInDim S2x512 ![] bcast_S_S2x512 main_cst_6
  let main_v22 : IVec S2x512 1 := cmpf .olt main_v20 main_v21
  let main_c_7 : IVec S_ 1 := constantI S_ 1 1#1
  let main_v23 : IVec S_ 1 := (fun x v => Host.reduce IntOp.andi x v reducesTo_S2x512_S_d0_1 h_S_) main_v22 main_c_7
  let main_v24 : IVec S_ 1 := andi main_v18 main_v23
  let main_v25 : FVec F S2x512 .f32 := Host.absf main_arg4
  let main_cst_8 : FVec F S_ .f32 := constant S_ .f32 0x7F800000#32
  let main_v26 : FVec F S2x512 .f32 := broadcastInDim S2x512 ![] bcast_S_S2x512 main_cst_8
  let main_v27 : IVec S2x512 1 := cmpf .olt main_v25 main_v26
  let main_c_9 : IVec S_ 1 := constantI S_ 1 1#1
  let main_v28 : IVec S_ 1 := (fun x v => Host.reduce IntOp.andi x v reducesTo_S2x512_S_d0_1 h_S_) main_v27 main_c_9
  let main_v29 : IVec S_ 1 := andi main_v24 main_v28
  let main_v30 : FVec F S2x512 .f32 := (extractStridedSlice S2x512 ![0, 0] · slices_S8x512_S2x512_0_0) main_arg5
  let main_v31 : FVec F S2x512 .f32 := Host.absf main_v30
  let main_cst_10 : FVec F S_ .f32 := constant S_ .f32 0x7F800000#32
  let main_v32 : FVec F S2x512 .f32 := broadcastInDim S2x512 ![] bcast_S_S2x512 main_cst_10
  let main_v33 : IVec S2x512 1 := cmpf .olt main_v31 main_v32
  let main_c_11 : IVec S_ 1 := constantI S_ 1 1#1
  fn_part2 (F := F) main_arg6 main_arg7 main_arg8 main_arg13 main_arg14 main_arg15 main_arg16 main_v29 main_v33 main_c_11

def fn {F : FTy → Type} [FloatOps F] (main_arg0 : IVec S256x200x7 32) (main_arg1 : IVec S256x200x4 32) (main_arg2 : FVec F S17x512 .f32) (main_arg3 : FVec F S7x512 .f32) (main_arg4 : FVec F S2x512 .f32) (main_arg5 : FVec F S8x512 .f32) (main_arg6 : FVec F S2x512 .f32) (main_arg7 : FVec F S4x512 .f32) (main_arg8 : FVec F S7x512 .f32) (main_arg9 : FVec F S512x512 .f32) (main_arg10 : FVec F S512 .f32) (main_arg11 : FVec F S512x512 .f32) (main_arg12 : FVec F S512 .f32) (main_arg13 : FVec F S6x512 .f32) (main_arg14 : FVec F S2x512 .f32) (main_arg15 : FVec F S2x512 .f32) (main_arg16 : FVec F S6x512 .f32) (main_arg17 : FVec F S512 .f32) (main_arg18 : FVec F S512 .f32) (main_arg19 : FVec F S512 .f32) (main_arg20 : FVec F S512 .f32) : IVec S_ 1 :=
  let main_c : IVec S_ 32 := constantI S_ 32 0#32
  let main_v0 : IVec S256x200x7 32 := broadcastInDim S256x200x7 ![] bcast_S_S256x200x7 main_c
  let main_v1 : IVec S256x200x7 1 := cmpi .eq main_arg0 main_v0
  let main_c_0 : IVec S_ 32 := constantI S_ 32 1#32
  let main_v2 : IVec S256x200x7 32 := broadcastInDim S256x200x7 ![] bcast_S_S256x200x7 main_c_0
  let main_v3 : IVec S256x200x7 1 := cmpi .eq main_arg0 main_v2
  let main_v4 : IVec S256x200x7 1 := ori main_v1 main_v3
  let main_c_1 : IVec S_ 1 := constantI S_ 1 1#1
  let main_v5 : IVec S_ 1 := (fun x v => Host.reduce IntOp.andi x v reducesTo_S256x200x7_S_d0_1_2 h_S_) main_v4 main_c_1
  let main_c_2 : IVec S_ 32 := constantI S_ 32 0#32
  let main_v6 : IVec S256x200x4 32 := broadcastInDim S256x200x4 ![] bcast_S_S256x200x4 main_c_2
  let main_v7 : IVec S256x200x4 1 := cmpi .eq main_arg1 main_v6
  let main_c_3 : IVec S_ 32 := constantI S_ 32 1#32
  let main_v8 : IVec S256x200x4 32 := broadcastInDim S256x200x4 ![] bcast_S_S256x200x4 main_c_3
  let main_v9 : IVec S256x200x4 1 := cmpi .eq main_arg1 main_v8
  let main_v10 : IVec S256x200x4 1 := ori main_v7 main_v9
  let main_c_4 : IVec S_ 1 := constantI S_ 1 1#1
  let main_v11 : IVec S_ 1 := (fun x v => Host.reduce IntOp.andi x v reducesTo_S256x200x4_S_d0_1_2 h_S_) main_v10 main_c_4
  let main_v12 : IVec S_ 1 := andi main_v5 main_v11
  let main_v13 : FVec F S2x512 .f32 := (extractStridedSlice S2x512 ![0, 0] · slices_S17x512_S2x512_0_0) main_arg2
  let main_v14 : FVec F S2x512 .f32 := Host.absf main_v13
  let main_cst : FVec F S_ .f32 := constant S_ .f32 0x7F800000#32
  let main_v15 : FVec F S2x512 .f32 := broadcastInDim S2x512 ![] bcast_S_S2x512 main_cst
  let main_v16 : IVec S2x512 1 := cmpf .olt main_v14 main_v15
  fn_part1 (F := F) main_arg3 main_arg4 main_arg5 main_arg6 main_arg7 main_arg8 main_arg13 main_arg14 main_arg15 main_arg16 main_v12 main_v16
-- ==== Kernel.lean ====
abbrev S256x200x7 : Shape := ⟨3, ![256, 200, 7]⟩
abbrev S256x200x4 : Shape := ⟨3, ![256, 200, 4]⟩
abbrev S17x512 : Shape := ⟨2, ![17, 512]⟩
abbrev S7x512 : Shape := ⟨2, ![7, 512]⟩
abbrev S2x512 : Shape := ⟨2, ![2, 512]⟩
abbrev S8x512 : Shape := ⟨2, ![8, 512]⟩
abbrev S4x512 : Shape := ⟨2, ![4, 512]⟩
abbrev S512x512 : Shape := ⟨2, ![512, 512]⟩
abbrev S512 : Shape := ⟨1, ![512]⟩
abbrev S6x512 : Shape := ⟨2, ![6, 512]⟩
abbrev S51200x7 : Shape := ⟨2, ![51200, 7]⟩
abbrev S51200x4 : Shape := ⟨2, ![51200, 4]⟩
abbrev S1024x512 : Shape := ⟨2, ![1024, 512]⟩
abbrev S1x512 : Shape := ⟨2, ![1, 512]⟩
abbrev S51200x512 : Shape := ⟨2, ![51200, 512]⟩
abbrev S1280x7 : Shape := ⟨2, ![1280, 7]⟩
abbrev S1280x4 : Shape := ⟨2, ![1280, 4]⟩
abbrev S1280x512 : Shape := ⟨2, ![1280, 512]⟩
abbrev S1280 : Shape := ⟨1, ![1280]⟩
abbrev S1280x1 : Shape := ⟨2, ![1280, 1]⟩
abbrev S1280x1024 : Shape := ⟨2, ![1280, 1024]⟩
abbrev S256x200x512 : Shape := ⟨3, ![256, 200, 512]⟩

abbrev nBuf : Space → Nat
  | .hbm => 40
  | .vmem => 30
  | .smem => 0
  | _ => 0

abbrev bufTy : (tb : Table) → Fin (tcTables nBuf tb) → BufTy
  | .hbm, ⟨0, _⟩ => ⟨S256x200x7, .i32⟩
  | .hbm, ⟨1, _⟩ => ⟨S256x200x4, .i32⟩
  | .hbm, ⟨2, _⟩ => ⟨S17x512, .f32⟩
  | .hbm, ⟨3, _⟩ => ⟨S7x512, .f32⟩
  | .hbm, ⟨4, _⟩ => ⟨S2x512, .f32⟩
  | .hbm, ⟨5, _⟩ => ⟨S8x512, .f32⟩
  | .hbm, ⟨6, _⟩ => ⟨S2x512, .f32⟩
  | .hbm, ⟨7, _⟩ => ⟨S4x512, .f32⟩
  | .hbm, ⟨8, _⟩ => ⟨S7x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S6x512, .f32⟩
  | .hbm, ⟨14, _⟩ => ⟨S2x512, .f32⟩
  | .hbm, ⟨15, _⟩ => ⟨S2x512, .f32⟩
  | .hbm, ⟨16, _⟩ => ⟨S6x512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S51200x7, .i32⟩
  | .hbm, ⟨22, _⟩ => ⟨S51200x7, .f32⟩
  | .hbm, ⟨23, _⟩ => ⟨S51200x4, .i32⟩
  | .hbm, ⟨24, _⟩ => ⟨S51200x4, .f32⟩
  | .hbm, ⟨25, _⟩ => ⟨S1024x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S51200x512, .f32⟩
  | .hbm, ⟨33, _⟩ => ⟨S51200x512, .f32⟩
  | .hbm, ⟨34, _⟩ => ⟨S51200x512, .f32⟩
  | .hbm, ⟨35, _⟩ => ⟨S51200x512, .f32⟩
  | .hbm, ⟨36, _⟩ => ⟨S256x200x512, .f32⟩
  | .hbm, ⟨37, _⟩ => ⟨S256x200x512, .f32⟩
  | .hbm, ⟨38, _⟩ => ⟨S256x200x512, .f32⟩
  | .hbm, ⟨39, _⟩ => ⟨S256x200x512, .f32⟩
  | .local _ .vmem, ⟨0, _⟩ => ⟨S1280x7, .f32⟩
  | .local _ .vmem, ⟨1, _⟩ => ⟨S1280x7, .f32⟩
  | .local _ .vmem, ⟨2, _⟩ => ⟨S1280x4, .f32⟩
  | .local _ .vmem, ⟨3, _⟩ => ⟨S1280x4, .f32⟩
  | .local _ .vmem, ⟨4, _⟩ => ⟨S17x512, .f32⟩
  | .local _ .vmem, ⟨5, _⟩ => ⟨S7x512, .f32⟩
  | .local _ .vmem, ⟨6, _⟩ => ⟨S2x512, .f32⟩
  | .local _ .vmem, ⟨7, _⟩ => ⟨S8x512, .f32⟩
  | .local _ .vmem, ⟨8, _⟩ => ⟨S2x512, .f32⟩
  | .local _ .vmem, ⟨9, _⟩ => ⟨S4x512, .f32⟩
  | .local _ .vmem, ⟨10, _⟩ => ⟨S7x512, .f32⟩
  | .local _ .vmem, ⟨11, _⟩ => ⟨S6x512, .f32⟩
  | .local _ .vmem, ⟨12, _⟩ => ⟨S2x512, .f32⟩
  | .local _ .vmem, ⟨13, _⟩ => ⟨S2x512, .f32⟩
  | .local _ .vmem, ⟨14, _⟩ => ⟨S6x512, .f32⟩
  | .local _ .vmem, ⟨15, _⟩ => ⟨S1024x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1280x512, .f32⟩
  | .local _ .vmem, ⟨23, _⟩ => ⟨S1280x512, .f32⟩
  | .local _ .vmem, ⟨24, _⟩ => ⟨S1280x512, .f32⟩
  | .local _ .vmem, ⟨25, _⟩ => ⟨S1280x512, .f32⟩
  | .local _ .vmem, ⟨26, _⟩ => ⟨S1280x512, .f32⟩
  | .local _ .vmem, ⟨27, _⟩ => ⟨S1280x512, .f32⟩
  | .local _ .vmem, ⟨28, _⟩ => ⟨S1280x512, .f32⟩
  | .local _ .vmem, ⟨29, _⟩ => ⟨S1280x512, .f32⟩
  | _, _ => ⟨S256x200x7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev main_v11_3 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S17x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1280x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1280x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1280x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1280x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceIdeal.lean ====
abbrev S256x200x7 : Shape := ⟨3, ![256, 200, 7]⟩
abbrev S256x200x4 : Shape := ⟨3, ![256, 200, 4]⟩
abbrev S17x512 : Shape := ⟨2, ![17, 512]⟩
abbrev S7x512 : Shape := ⟨2, ![7, 512]⟩
abbrev S2x512 : Shape := ⟨2, ![2, 512]⟩
abbrev S8x512 : Shape := ⟨2, ![8, 512]⟩
abbrev S4x512 : Shape := ⟨2, ![4, 512]⟩
abbrev S512x512 : Shape := ⟨2, ![512, 512]⟩
abbrev S512 : Shape := ⟨1, ![512]⟩
abbrev S6x512 : Shape := ⟨2, ![6, 512]⟩
abbrev S256x200x1 : Shape := ⟨3, ![256, 200, 1]⟩
abbrev S256x200 : Shape := ⟨2, ![256, 200]⟩
abbrev S_ : Shape := ⟨0, ![]⟩
abbrev S256x200x512 : Shape := ⟨3, ![256, 200, 512]⟩
abbrev S1x1x512 : Shape := ⟨3, ![1, 1, 512]⟩

abbrev nBuf : Space → Nat
  | .hbm => 219
  | .vmem => 0
  | .smem => 0
  | _ => 0

abbrev hbmTy0_0 (i : Nat) : BufTy := match i % 128 with
  | 0 => ⟨S256x200x7, .i32⟩
  | 1 => ⟨S256x200x4, .i32⟩
  | 2 => ⟨S17x512, .f32⟩
  | 3 => ⟨S7x512, .f32⟩
  | 4 => ⟨S2x512, .f32⟩
  | 5 => ⟨S8x512, .f32⟩
  | 6 => ⟨S2x512, .f32⟩
  | 7 => ⟨S4x512, .f32⟩
  | 8 => ⟨S7x512, .f32⟩
  | 9 => ⟨S512x512, .f32⟩
  | 10 => ⟨S512, .f32⟩
  | 11 => ⟨S512x512, .f32⟩
  | 12 => ⟨S512, .f32⟩
  | 13 => ⟨S6x512, .f32⟩
  | 14 => ⟨S2x512, .f32⟩
  | 15 => ⟨S2x512, .f32⟩
  | 16 => ⟨S6x512, .f32⟩
  | 17 => ⟨S512, .f32⟩
  | 18 => ⟨S512, .f32⟩
  | 19 => ⟨S512, .f32⟩
  | 20 => ⟨S512, .f32⟩
  | 21 => ⟨S256x200x1, .i32⟩
  | 22 => ⟨S256x200, .i32⟩
  | 23 => ⟨S_, .i32⟩
  | 24 => ⟨S256x200, .i32⟩
  | 25 => ⟨S256x200, .i1⟩
  | 26 => ⟨S_, .i32⟩
  | 27 => ⟨S256x200, .i32⟩
  | 28 => ⟨S256x200, .i32⟩
  | 29 => ⟨S256x200, .i32⟩
  | 30 => ⟨S256x200x1, .i32⟩
  | 31 => ⟨S256x200x512, .f32⟩
  | 32 => ⟨S256x200x1, .i32⟩
  | 33 => ⟨S256x200, .i32⟩
  | 34 => ⟨S_, .i32⟩
  | 35 => ⟨S256x200, .i32⟩
  | 36 => ⟨S256x200, .i1⟩
  | 37 => ⟨S_, .i32⟩
  | 38 => ⟨S256x200, .i32⟩
  | 39 => ⟨S256x200, .i32⟩
  | 40 => ⟨S256x200, .i32⟩
  | 41 => ⟨S256x200x1, .i32⟩
  | 42 => ⟨S256x200x512, .f32⟩
  | 43 => ⟨S256x200x512, .f32⟩
  | 44 => ⟨S256x200x1, .i32⟩
  | 45 => ⟨S256x200, .i32⟩
  | 46 => ⟨S_, .i32⟩
  | 47 => ⟨S256x200, .i32⟩
  | 48 => ⟨S256x200, .i1⟩
  | 49 => ⟨S_, .i32⟩
  | 50 => ⟨S256x200, .i32⟩
  | 51 => ⟨S256x200, .i32⟩
  | 52 => ⟨S256x200, .i32⟩
  | 53 => ⟨S256x200x1, .i32⟩
  | 54 => ⟨S256x200x512, .f32⟩
  | 55 => ⟨S256x200x512, .f32⟩
  | 56 => ⟨S256x200x1, .i32⟩
  | 57 => ⟨S256x200, .i32⟩
  | 58 => ⟨S_, .i32⟩
  | 59 => ⟨S256x200, .i32⟩
  | 60 => ⟨S256x200, .i1⟩
  | 61 => ⟨S_, .i32⟩
  | 62 => ⟨S256x200, .i32⟩
  | 63 => ⟨S256x200, .i32⟩
  | 64 => ⟨S256x200, .i32⟩
  | 65 => ⟨S256x200x1, .i32⟩
  | 66 => ⟨S256x200x512, .f32⟩
  | 67 => ⟨S256x200x512, .f32⟩
  | 68 => ⟨S256x200x1, .i32⟩
  | 69 => ⟨S256x200, .i32⟩
  | 70 => ⟨S_, .i32⟩
  | 71 => ⟨S256x200, .i32⟩
  | 72 => ⟨S256x200, .i1⟩
  | 73 => ⟨S_, .i32⟩
  | 74 => ⟨S256x200, .i32⟩
  | 75 => ⟨S256x200, .i32⟩
  | 76 => ⟨S256x200, .i32⟩
  | 77 => ⟨S256x200x1, .i32⟩
  | 78 => ⟨S256x200x512, .f32⟩
  | 79 => ⟨S256x200x512, .f32⟩
  | 80 => ⟨S256x200x1, .i32⟩
  | 81 => ⟨S256x200, .i32⟩
  | 82 => ⟨S_, .i32⟩
  | 83 => ⟨S256x200, .i32⟩
  | 84 => ⟨S256x200, .i1⟩
  | 85 => ⟨S_, .i32⟩
  | 86 => ⟨S256x200, .i32⟩
  | 87 => ⟨S256x200, .i32⟩
  | 88 => ⟨S256x200, .i32⟩
  | 89 => ⟨S256x200x1, .i32⟩
  | 90 => ⟨S256x200x512, .f32⟩
  | 91 => ⟨S256x200x512, .f32⟩
  | 92 => ⟨S256x200x1, .i32⟩
  | 93 => ⟨S256x200, .i32⟩
  | 94 => ⟨S_, .i32⟩
  | 95 => ⟨S256x200, .i32⟩
  | 96 => ⟨S256x200, .i1⟩
  | 97 => ⟨S_, .i32⟩
  | 98 => ⟨S256x200, .i32⟩
  | 99 => ⟨S256x200, .i32⟩
  | 100 => ⟨S256x200, .i32⟩
  | 101 => ⟨S256x200x1, .i32⟩
  | 102 => ⟨S256x200x512, .f32⟩
  | 103 => ⟨S256x200x512, .f32⟩
  | 104 => ⟨S_, .f32⟩
  | 105 => ⟨S256x200, .f32⟩
  | 106 => ⟨S256x200x1, .f32⟩
  | 107 => ⟨S_, .f32⟩
  | 108 => ⟨S256x200x1, .f32⟩
  | 109 => ⟨S256x200x1, .f32⟩
  | 110 => ⟨S256x200x512, .f32⟩
  | 111 => ⟨S256x200x512, .f32⟩
  | 112 => ⟨S256x200x512, .f32⟩
  | 113 => ⟨S_, .f32⟩
  | 114 => ⟨S256x200, .f32⟩
  | 115 => ⟨S256x200x1, .f32⟩
  | 116 => ⟨S_, .f32⟩
  | 117 => ⟨S256x200x1, .f32⟩
  | 118 => ⟨S256x200x1, .f32⟩
  | 119 => ⟨S256x200x512, .f32⟩
  | 120 => ⟨S256x200x512, .f32⟩
  | 121 => ⟨S_, .f32⟩
  | 122 => ⟨S256x200x1, .f32⟩
  | 123 => ⟨S256x200x1, .f32⟩
  | 124 => ⟨S256x200x1, .f32⟩
  | 125 => ⟨S256x200x512, .f32⟩
  | 126 => ⟨S256x200x512, .f32⟩
  | 127 => ⟨S1x1x512, .f32⟩
  | _ => ⟨S256x200x7, .i32⟩

abbrev hbmTy0_1 (i : Nat) : BufTy := match i % 128 with
  | 0 => ⟨S256x200x512, .f32⟩
  | 1 => ⟨S256x200x512, .f32⟩
  | 2 => ⟨S1x1x512, .f32⟩
  | 3 => ⟨S256x200x512, .f32⟩
  | 4 => ⟨S256x200x512, .f32⟩
  | 5 => ⟨S512x512, .f32⟩
  | 6 => ⟨S256x200x512, .f32⟩
  | 7 => ⟨S1x1x512, .f32⟩
  | 8 => ⟨S256x200x512, .f32⟩
  | 9 => ⟨S256x200x512, .f32⟩
  | 10 => ⟨S512x512, .f32⟩
  | 11 => ⟨S256x200x512, .f32⟩
  | 12 => ⟨S1x1x512, .f32⟩
  | 13 => ⟨S256x200x512, .f32⟩
  | 14 => ⟨S256x200x512, .f32⟩
  | 15 => ⟨S256x200x1, .i32⟩
  | 16 => ⟨S256x200, .i32⟩
  | 17 => ⟨S_, .i32⟩
  | 18 => ⟨S256x200, .i32⟩
  | 19 => ⟨S256x200, .i1⟩
  | 20 => ⟨S_, .i32⟩
  | 21 => ⟨S256x200, .i32⟩
  | 22 => ⟨S256x200, .i32⟩
  | 23 => ⟨S256x200, .i32⟩
  | 24 => ⟨S256x200x1, .i32⟩
  | 25 => ⟨S256x200x512, .f32⟩
  | 26 => ⟨S256x200x1, .i32⟩
  | 27 => ⟨S256x200, .i32⟩
  | 28 => ⟨S_, .i32⟩
  | 29 => ⟨S256x200, .i32⟩
  | 30 => ⟨S256x200, .i1⟩
  | 31 => ⟨S_, .i32⟩
  | 32 => ⟨S256x200, .i32⟩
  | 33 => ⟨S256x200, .i32⟩
  | 34 => ⟨S256x200, .i32⟩
  | 35 => ⟨S256x200x1, .i32⟩
  | 36 => ⟨S256x200x512, .f32⟩
  | 37 => ⟨S256x200x512, .f32⟩
  | 38 => ⟨S256x200x1, .i32⟩
  | 39 => ⟨S256x200, .i32⟩
  | 40 => ⟨S_, .i32⟩
  | 41 => ⟨S256x200, .i32⟩
  | 42 => ⟨S256x200, .i1⟩
  | 43 => ⟨S_, .i32⟩
  | 44 => ⟨S256x200, .i32⟩
  | 45 => ⟨S256x200, .i32⟩
  | 46 => ⟨S256x200, .i32⟩
  | 47 => ⟨S256x200x1, .i32⟩
  | 48 => ⟨S256x200x512, .f32⟩
  | 49 => ⟨S256x200x512, .f32⟩
  | 50 => ⟨S256x200x1, .i32⟩
  | 51 => ⟨S256x200, .i32⟩
  | 52 => ⟨S_, .i32⟩
  | 53 => ⟨S256x200, .i32⟩
  | 54 => ⟨S256x200, .i1⟩
  | 55 => ⟨S_, .i32⟩
  | 56 => ⟨S256x200, .i32⟩
  | 57 => ⟨S256x200, .i32⟩
  | 58 => ⟨S256x200, .i32⟩
  | 59 => ⟨S256x200x1, .i32⟩
  | 60 => ⟨S256x200x512, .f32⟩
  | 61 => ⟨S256x200x512, .f32⟩
  | 62 => ⟨S_, .f32⟩
  | 63 => ⟨S256x200, .f32⟩
  | 64 => ⟨S256x200x1, .f32⟩
  | 65 => ⟨S_, .f32⟩
  | 66 => ⟨S256x200x1, .f32⟩
  | 67 => ⟨S256x200x1, .f32⟩
  | 68 => ⟨S256x200x512, .f32⟩
  | 69 => ⟨S256x200x512, .f32⟩
  | 70 => ⟨S256x200x512, .f32⟩
  | 71 => ⟨S_, .f32⟩
  | 72 => ⟨S256x200, .f32⟩
  | 73 => ⟨S256x200x1, .f32⟩
  | 74 => ⟨S_, .f32⟩
  | 75 => ⟨S256x200x1, .f32⟩
  | 76 => ⟨S256x200x1, .f32⟩
  | 77 => ⟨S256x200x512, .f32⟩
  | 78 => ⟨S256x200x512, .f32⟩
  | 79 => ⟨S_, .f32⟩
  | 80 => ⟨S256x200x1, .f32⟩
  | 81 => ⟨S256x200x1, .f32⟩
  | 82 => ⟨S256x200x1, .f32⟩
  | 83 => ⟨S256x200x512, .f32⟩
  | 84 => ⟨S256x200x512, .f32⟩
  | 85 => ⟨S1x1x512, .f32⟩
  | 86 => ⟨S256x200x512, .f32⟩
  | 87 => ⟨S256x200x512, .f32⟩
  | 88 => ⟨S1x1x512, .f32⟩
  | 89 => ⟨S256x200x512, .f32⟩
  | 90 => ⟨S256x200x512, .f32⟩
  | _ => ⟨S256x200x7, .i32⟩

abbrev hbmTy (i : Nat) : BufTy := match i / 128 with
  | 0 => hbmTy0_0 i
  | 1 => hbmTy0_1 i
  | _ => ⟨S256x200x7, .i32⟩

abbrev bufTy : (tb : Table) → Fin (tcTables nBuf tb) → BufTy
  | .hbm, ⟨i, _⟩ => hbmTy i
  | _, _ => ⟨S256x200x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_7 : Ref sig .tc := ⟨.hbm, 70, rfl⟩
abbrev main_v41 : Ref sig .tc := ⟨.hbm, 71, rfl⟩
abbrev main_v42 : Ref sig .tc := ⟨.hbm, 72, rfl⟩
abbrev main_c_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_9 : Ref sig .tc := ⟨.hbm, 82, rfl⟩
abbrev main_v51 : Ref sig .tc := ⟨.hbm, 83, rfl⟩
abbrev main_v52 : Ref sig .tc := ⟨.hbm, 84, rfl⟩
abbrev main_c_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_c_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_14 : Ref sig .tc := ⟨.hbm, 113, rfl⟩
abbrev main_v76 : Ref sig .tc := ⟨.hbm, 114, rfl⟩
abbrev main_v77 : Ref sig .tc := ⟨.hbm, 115, rfl⟩
abbrev main_cst_15 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_c_17 : Ref sig .tc := ⟨.hbm, 145, rfl⟩
abbrev main_v105 : Ref sig .tc := ⟨.hbm, 146, rfl⟩
abbrev main_v106 : Ref sig .tc := ⟨.hbm, 147, rfl⟩
abbrev main_c_18 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_19 : Ref sig .tc := ⟨.hbm, 156, rfl⟩
abbrev main_v114 : Ref sig .tc := ⟨.hbm, 157, rfl⟩
abbrev main_v115 : Ref sig .tc := ⟨.hbm, 158, rfl⟩
abbrev main_c_20 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_c_21 : Ref sig .tc := ⟨.hbm, 168, rfl⟩
abbrev main_v124 : Ref sig .tc := ⟨.hbm, 169, rfl⟩
abbrev main_v125 : Ref sig .tc := ⟨.hbm, 170, rfl⟩
abbrev main_c_22 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_c_23 : Ref sig .tc := ⟨.hbm, 180, rfl⟩
abbrev main_v134 : Ref sig .tc := ⟨.hbm, 181, rfl⟩
abbrev main_v135 : Ref sig .tc := ⟨.hbm, 182, rfl⟩
abbrev main_c_24 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_25 : Ref sig .tc := ⟨.hbm, 190, rfl⟩
abbrev main_v142 : Ref sig .tc := ⟨.hbm, 191, rfl⟩
abbrev main_v143 : Ref sig .tc := ⟨.hbm, 192, rfl⟩
abbrev main_cst_26 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_27 : Ref sig .tc := ⟨.hbm, 199, rfl⟩
abbrev main_v149 : Ref sig .tc := ⟨.hbm, 200, rfl⟩
abbrev main_v150 : Ref sig .tc := ⟨.hbm, 201, rfl⟩
abbrev main_cst_28 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_29 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩

abbrev nD : Nat := 1
abbrev τ : Topo := Topo.v7x

variable {F : FTy → Type} [FloatOps F]
-- ==== Proof.RowMath.lean ====
module

public import Idealize.ShloMosaic.Lib.Pointwise

/-! # One row of the layer normalisation, as mathematics over the extended reals

A row is a function of the 512 lanes. Two ways of normalising it are written down: the kernel's, with the variance as
the mean of the squares less the square of the mean and a reciprocal square root, and the reference's, with the
variance as the mean of the squared deviations and a division by a square root. They agree on a row of real numbers
(`normKernel_eq_normRef`). The second half is the lookup of a row sum through its 0/1 features: the kernel adds
`feature * (row 1 - row 0)` to the sum of the rows 0, the reference adds the rows looked up. -/

@[expose] public section

noncomputable section

open Idealize.ShloMosaic

namespace Cert.RowMath

/-- The number of lanes, as the programs write it. -/
abbrev width : EReal := Ideal.ofBits .f32 0x44000000#32

/-- The constant added to the variance, as the programs write it. -/
abbrev eps : EReal := Ideal.ofBits .f32 0x3727C5AC#32

theorem width_eq : width = ((512 : ℝ) : EReal) := by
  simp [width, Ideal.ofBits, Ideal.ieee, -EReal.coe_mul]; norm_num

theorem eps_eq : ∃ e : ℝ, 0 < e ∧ eps = (e : EReal) := by
  refine ⟨_, ?_, by simp [eps, Ideal.ofBits, Ideal.ieee, -EReal.coe_mul]; rfl⟩
  positivity

/-- The mean of a row. -/
def mean (x : Fin 512 → EReal) : EReal := Ideal.div (∑ k, x k) width

/-- The kernel's normalised lane `l` of a row, scaled by `g` and shifted by `b`. -/
def normKernel (x : Fin 512 → EReal) (g b : EReal) (l : Fin 512) : EReal :=
  (x l - mean x) * Ideal.rsqrt (Ideal.div (∑ k, x k * x k) width - mean x * mean x + eps) * g + b

/-- The reference's normalised lane `l` of a row, scaled by `g` and shifted by `b`. -/
def normRef (x : Fin 512 → EReal) (g b : EReal) (l : Fin 512) : EReal :=
  Ideal.div (x l - mean x) (Ideal.sqrt (Ideal.div (∑ k, (x k - mean x) * (x k - mean x)) width + eps)) * g + b

theorem coe_sum (r : Fin 512 → ℝ) : (∑ k, (r k : EReal)) = ((∑ k, r k : ℝ) : EReal) :=
  (map_sum (⟨⟨Real.toEReal, EReal.coe_zero⟩, EReal.coe_add⟩ : ℝ →+ EReal) r Finset.univ).symm

theorem mean_coe (r : Fin 512 → ℝ) : mean (fun k => (r k : EReal)) = (((∑ k, r k) / 512 : ℝ) : EReal) := by
  rw [mean, width_eq, coe_sum, Ideal.div_coe (by norm_num), ← EReal.coe_mul]
  congr 1; ring

/-- The mean of the squares less the square of the mean is the mean of the squared deviations. -/
theorem variance_eq (r : Fin 512 → ℝ) :
    (∑ k, r k * r k) * (1 / 512) - (∑ k, r k) / 512 * ((∑ k, r k) / 512)
      = (∑ k, (r k - (∑ k, r k) / 512) * (r k - (∑ k, r k) / 512)) * (1 / 512) := by
  generalize hm : (∑ k, r k) / 512 = μ
  have hs : ∑ k, r k = 512 * μ := by rw [← hm]; ring
  have h : ∀ k, (r k - μ) * (r k - μ) = r k * r k - 2 * μ * r k + μ * μ := fun k => by ring
  simp only [h, Finset.sum_add_distrib, Finset.sum_sub_distrib, ← Finset.mul_sum, hs, Finset.sum_const, Finset.card_univ,
    Fintype.card_fin, nsmul_eq_mul]
  push_cast
  ring

/-- On a row of real numbers the two normalisations agree, whatever the scale and the shift. -/
theorem normKernel_eq_normRef (x : Fin 512 → EReal) (hx : ∀ k, ∃ r : ℝ, x k = r) (g b : EReal) (l : Fin 512) :
    normKernel x g b l = normRef x g b l := by
  choose r hr using hx
  obtain rfl : x = fun k => (r k : EReal) := funext hr
  obtain ⟨e, he, hee⟩ := eps_eq
  have hv := variance_eq r
  generalize hμ : (∑ k, r k) / 512 = μ at hv
  have hnn : 0 ≤ (∑ k, (r k - μ) * (r k - μ)) * (1 / 512 : ℝ) :=
    mul_nonneg (Finset.sum_nonneg fun k _ => mul_self_nonneg _) (by norm_num)
  unfold normKernel normRef
  rw [mean_coe, hμ, width_eq, hee]
  simp only [← EReal.coe_mul, ← EReal.coe_sub, coe_sum, Ideal.div_coe (show (512 : ℝ) ≠ 0 by norm_num), ← EReal.coe_add]
  rw [hv]
  generalize (∑ k, (r k - μ) * (r k - μ)) * (1 / 512 : ℝ) = v at hnn
  have hpos : 0 < v + e := by linarith
  rw [Ideal.rsqrt_coe, if_neg (not_lt.2 hpos.le), if_neg hpos.ne', Ideal.sqrt_coe, if_neg (not_lt.2 hpos.le),
    Ideal.div_coe (Real.sqrt_pos.2 hpos).ne', one_div]

/-! ## A row looked up through its features -/

/-- The row that a feature word picks out of the rows 0 and 1 of a table. -/
def pick (w : BitVec 32) (t0 t1 : EReal) : EReal := if w = 0#32 then t0 else t1

/-- The feature word as the number it stands for. -/
abbrev num (w : BitVec 32) : EReal := ((w.toInt : ℝ) : EReal)

/-- A 0/1 feature and two real rows: all three are real, and the row picked is the row 0 moved by the feature times
    the difference of the rows. -/
theorem pick_real {w : BitVec 32} (hw : w = 0#32 ∨ w = 1#32) (t0 t1 : ℝ) :
    pick w t0 t1 = ((t0 + (w.toInt : ℝ) * (t1 - t0) : ℝ) : EReal) := by
  rcases hw with rfl | rfl
  · simp [pick]
  · simp [pick]

theorem pick_isReal {w : BitVec 32} {t0 t1 : EReal} (h0 : ∃ r : ℝ, t0 = r) (h1 : ∃ r : ℝ, t1 = r) : ∃ r : ℝ, pick w t0 t1 = r := by
  unfold pick; split
  · exact h0
  · exact h1

theorem add_isReal {a b : EReal} (ha : ∃ r : ℝ, a = r) (hb : ∃ r : ℝ, b = r) : ∃ r : ℝ, a + b = r := by
  obtain ⟨r, rfl⟩ := ha; obtain ⟨s, rfl⟩ := hb
  exact ⟨r + s, (EReal.coe_add r s).symm⟩

/-- The sum of the seven rows looked up, in the reference's order. -/
def sum7 (w : Fin 7 → BitVec 32) (t0 t1 : Fin 7 → EReal) : EReal :=
  pick (w 0) (t0 0) (t1 0) + pick (w 1) (t0 1) (t1 1) + pick (w 2) (t0 2) (t1 2) + pick (w 3) (t0 3) (t1 3)
    + pick (w 4) (t0 4) (t1 4) + pick (w 5) (t0 5) (t1 5) + pick (w 6) (t0 6) (t1 6)

/-- The sum of the four rows looked up, in the reference's order. -/
def sum4 (w : Fin 4 → BitVec 32) (t0 t1 : Fin 4 → EReal) : EReal :=
  pick (w 0) (t0 0) (t1 0) + pick (w 1) (t0 1) (t1 1) + pick (w 2) (t0 2) (t1 2) + pick (w 3) (t0 3) (t1 3)

theorem sum7_isReal (w : Fin 7 → BitVec 32) {t0 t1 : Fin 7 → EReal} (h0 : ∀ i, ∃ r : ℝ, t0 i = r) (h1 : ∀ i, ∃ r : ℝ, t1 i = r) :
    ∃ r : ℝ, sum7 w t0 t1 = r :=
  add_isReal (add_isReal (add_isReal (add_isReal (add_isReal (add_isReal (pick_isReal (h0 _) (h1 _)) (pick_isReal (h0 _) (h1 _)))
    (pick_isReal (h0 _) (h1 _))) (pick_isReal (h0 _) (h1 _))) (pick_isReal (h0 _) (h1 _))) (pick_isReal (h0 _) (h1 _)))
    (pick_isReal (h0 _) (h1 _))

theorem sum4_isReal (w : Fin 4 → BitVec 32) {t0 t1 : Fin 4 → EReal} (h0 : ∀ i, ∃ r : ℝ, t0 i = r) (h1 : ∀ i, ∃ r : ℝ, t1 i = r) :
    ∃ r : ℝ, sum4 w t0 t1 = r :=
  add_isReal (add_isReal (add_isReal (pick_isReal (h0 _) (h1 _)) (pick_isReal (h0 _) (h1 _)))
    (pick_isReal (h0 _) (h1 _))) (pick_isReal (h0 _) (h1 _))

/-- The kernel's way to the sum of seven rows: the features against the differences of the rows, and the rows 0 added. -/
theorem delta7 (w : Fin 7 → BitVec 32) (hw : ∀ i, w i = 0#32 ∨ w i = 1#32) {t0 t1 : Fin 7 → EReal}
    (h0 : ∀ i, ∃ r : ℝ, t0 i = r) (h1 : ∀ i, ∃ r : ℝ, t1 i = r) :
    (∑ i, num (w i) * (t1 i - t0 i)) + (t0 0 + t0 1 + t0 2 + t0 3 + t0 4 + t0 5 + t0 6) = sum7 w t0 t1 := by
  choose r hr using h0
  choose s hs using h1
  obtain rfl : t0 = fun i => (r i : EReal) := funext hr
  obtain rfl : t1 = fun i => (s i : EReal) := funext hs
  unfold sum7
  simp only [Fin.sum_univ_seven, pick_real (hw _), ← EReal.coe_sub, ← EReal.coe_mul, ← EReal.coe_add]
  congr 1; ring

/-- The kernel's way to the sum of four rows. -/
theorem delta4 (w : Fin 4 → BitVec 32) (hw : ∀ i, w i = 0#32 ∨ w i = 1#32) {t0 t1 : Fin 4 → EReal}
    (h0 : ∀ i, ∃ r : ℝ, t0 i = r) (h1 : ∀ i, ∃ r : ℝ, t1 i = r) :
    (∑ i, num (w i) * (t1 i - t0 i)) + (t0 0 + t0 1 + t0 2 + t0 3) = sum4 w t0 t1 := by
  choose r hr using h0
  choose s hs using h1
  obtain rfl : t0 = fun i => (r i : EReal) := funext hr
  obtain rfl : t1 = fun i => (s i : EReal) := funext hs
  unfold sum4
  simp only [Fin.sum_univ_four, pick_real (hw _), ← EReal.coe_sub, ← EReal.coe_mul, ← EReal.coe_add]
  congr 1; ring

end Cert.RowMath

end

end
-- ==== Proof.Spec.lean ====
module

public import proofs.«01_k».proof.Proof.RowMath
public import Idealize.ShloMosaic.Lib.Pointwise

/-! # The four results as formulas over the arguments

`nodeRow`, `edgeRow`, `norm` and `proj` say, entry by entry, what the problem asks for: the rows looked up are added, the
sum is normalised, and the node rows are projected twice. Both programs are compared with these formulas. -/

@[expose] public section

noncomputable section

open Idealize.ShloMosaic

namespace Cert.Spec

open Cert.RowMath

/-- An array of extended reals of two axes. -/
abbrev Mat (n k : Nat) : Type := FVec Ideal ⟨2, ![n, k]⟩ .f32

/-- A vector of extended reals. -/
abbrev Lanes (n : Nat) : Type := FVec Ideal ⟨1, ![n]⟩ .f32

/-- The rows `j` of the seven node tables, at lane `k`. -/
def nodeTab (t0 : Mat 17 512) (t1 : Mat 7 512) (t2 : Mat 2 512) (t3 : Mat 8 512) (t4 : Mat 2 512) (t5 : Mat 4 512) (t6 : Mat 7 512)
    (j : Fin 2) (k : Fin 512) : Fin 7 → EReal :=
  ![t0 (ix2 (j.castLE (by decide)) k), t1 (ix2 (j.castLE (by decide)) k), t2 (ix2 j k), t3 (ix2 (j.castLE (by decide)) k),
    t4 (ix2 j k), t5 (ix2 (j.castLE (by decide)) k), t6 (ix2 (j.castLE (by decide)) k)]

/-- The rows `j` of the four edge tables, at lane `k`. -/
def edgeTab (t0 : Mat 6 512) (t1 : Mat 2 512) (t2 : Mat 2 512) (t3 : Mat 6 512) (j : Fin 2) (k : Fin 512) : Fin 4 → EReal :=
  ![t0 (ix2 (j.castLE (by decide)) k), t1 (ix2 j k), t2 (ix2 j k), t3 (ix2 (j.castLE (by decide)) k)]

/-- The sum of the node rows looked up for the pair `(p, q)`. -/
def nodeRow (f : IVec ⟨3, ![256, 200, 7]⟩ 32) (t0 : Mat 17 512) (t1 : Mat 7 512) (t2 : Mat 2 512) (t3 : Mat 8 512) (t4 : Mat 2 512)
    (t5 : Mat 4 512) (t6 : Mat 7 512) (p : Fin 256) (q : Fin 200) : Fin 512 → EReal := fun k =>
  sum7 (fun i => f (ix3 p q i)) (nodeTab t0 t1 t2 t3 t4 t5 t6 0 k) (nodeTab t0 t1 t2 t3 t4 t5 t6 1 k)

/-- The sum of the edge rows looked up for the pair `(p, q)`. -/
def edgeRow (f : IVec ⟨3, ![256, 200, 4]⟩ 32) (t0 : Mat 6 512) (t1 : Mat 2 512) (t2 : Mat 2 512) (t3 : Mat 6 512)
    (p : Fin 256) (q : Fin 200) : Fin 512 → EReal := fun k =>
  sum4 (fun i => f (ix3 p q i)) (edgeTab t0 t1 t2 t3 0 k) (edgeTab t0 t1 t2 t3 1 k)

/-- A row normalised, scaled by `g` and shifted by `b`. -/
def norm (x : Fin 512 → EReal) (g b : Lanes 512) : Fin 512 → EReal := fun l => normRef x (g (ix1 l)) (b (ix1 l)) l

/-- A row against the rows of `w`, shifted by `b`. -/
def proj (x : Fin 512 → EReal) (w : Mat 512 512) (b : Lanes 512) : Fin 512 → EReal := fun l => (∑ k, x k * w (ix2 l k)) + b (ix1 l)

/-- An array of three axes from its rows. -/
def rows (x : Fin 256 → Fin 200 → Fin 512 → EReal) : FVec Ideal ⟨3, ![256, 200, 512]⟩ .f32 := fun i => x (i 0) (i 1) (i 2)

end Cert.Spec

end

end
-- ==== Proof.Block.lean ====
module

public import proofs.«01_k».proof.Proof.Spec
public import proofs.«01_k».proof.Proof.Gen.KernelIdeal.Frame
public import Idealize.ShloMosaic.Lib.Pipeline.ValueKit

/-! # The blocks the kernel reads, at an entry

The grid's point `t` holds the rows `1280 t … 1280 t + 1279` of the 51200 pairs; the pair of the row `n` is
`(n / 200, n % 200)`. The tables, the weights and the scales are read whole at every point. -/

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.RowMath Cert.Spec

variable (m : (ℓ : Loc nD τ sig) → Buf (Elt Ideal) ℓ)

/-- The window's block at each point of the grid. -/
theorem idx : ∀ t : Fin cfg0.N, win0_0.index t = ![t.val, 0] ∧ win0_1.index t = ![t.val, 0] ∧ win0_20.index t = ![t.val, 0]
    ∧ win0_21.index t = ![t.val, 0] ∧ win0_22.index t = ![t.val, 0] ∧ win0_23.index t = ![t.val, 0] ∧ t.val < 40 :=
  (by decide +kernel : ∀ t : Fin grid0.N, _)

/-- The windows that are their whole arrays. -/
theorem idx_whole : ∀ t : Fin cfg0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, _)

/-- The first number of the pair of a row. -/
def pairFst (n : Fin 51200) : Fin 256 := ⟨n.val / 200, by omega⟩

/-- The second number of the pair of a row. -/
def pairSnd (n : Fin 51200) : Fin 200 := ⟨n.val % 200, by omega⟩

/-- The row of the array that the row `r` of the block at `t` is. -/
def row (t : Fin cfg0.N) (r : Fin 1280) : Fin 51200 := ⟨t.val * 1280 + r.val, by have := (idx t).2.2.2.2.2.2; omega⟩

/-- The node features as the region finds them. -/
theorem nodeFeatures (c : Dev nD) (n : Fin 51200) (i : Fin 7) :
    (V m c main_v1 : FVec Ideal S51200x7 .f32) (ix2 n i)
      = num ((m ((c : Thread nD τ).loc main_arg0) : IVec S256x200x7 32) (ix3 (pairFst n) (pairSnd n) i)) := by
  simp only [V, V0, List.flatten_cons, List.flatten_nil, List.append_nil]
  entry_read
  pointwise
  rfl

/-- The edge features as the region finds them. -/
theorem edgeFeatures (c : Dev nD) (n : Fin 51200) (i : Fin 4) :
    (V m c main_v3 : FVec Ideal S51200x4 .f32) (ix2 n i)
      = num ((m ((c : Thread nD τ).loc main_arg1) : IVec S256x200x4 32) (ix3 (pairFst n) (pairSnd n) i)) := by
  simp only [V, V0, List.flatten_cons, List.flatten_nil, List.append_nil]
  entry_read
  pointwise
  rfl

/-- The upper half of the weights as the region finds them. -/
theorem startWeights (c : Dev nD) (l k : Fin 512) :
    (V m c main_v4 : FVec Ideal S1024x512 .f32) (ix2 (l.castLE (by decide)) k)
      = (m ((c : Thread nD τ).loc main_arg9) : FVec Ideal S512x512 .f32) (ix2 l k) := by
  simp only [V, V0, List.flatten_cons, List.flatten_nil, List.append_nil]
  entry_read
  pointwise
  rw [dif_pos (show ((l.castLE (by decide) : Fin 1024) : ℕ) < 512 from l.isLt)]
  rfl

/-- The lower half of the weights as the region finds them. -/
theorem endWeights (c : Dev nD) (l k : Fin 512) :
    (V m c main_v4 : FVec Ideal S1024x512 .f32) (ix2 (l.natAdd 512) k)
      = (m ((c : Thread nD τ).loc main_arg11) : FVec Ideal S512x512 .f32) (ix2 l k) := by
  simp only [V, V0, List.flatten_cons, List.flatten_nil, List.append_nil]
  entry_read
  pointwise
  rw [dif_neg (show ¬ ((l.natAdd 512 : Fin 1024) : ℕ) < 512 from Nat.not_lt.2 (Nat.le_add_right _ _))]
  exact congrArg (m _) (congrArg (fun n => ix2 n k) (Fin.ext (Nat.add_sub_cancel_left ..)))

theorem lanes5 (c : Dev nD) (l : Fin 512) :
    (V m c main_v5 : FVec Ideal S1x512 .f32) (ix2 0 l) = (m ((c : Thread nD τ).loc main_arg10) : FVec Ideal S512 .f32) (ix1 l) := by
  simp only [V, V0, List.flatten_cons, List.flatten_nil, List.append_nil]
  entry_read
  pointwise

theorem lanes6 (c : Dev nD) (l : Fin 512) :
    (V m c main_v6 : FVec Ideal S1x512 .f32) (ix2 0 l) = (m ((c : Thread nD τ).loc main_arg12) : FVec Ideal S512 .f32) (ix1 l) := by
  simp only [V, V0, List.flatten_cons, List.flatten_nil, List.append_nil]
  entry_read
  pointwise

theorem lanes7 (c : Dev nD) (l : Fin 512) :
    (V m c main_v7 : FVec Ideal S1x512 .f32) (ix2 0 l) = (m ((c : Thread nD τ).loc main_arg17) : FVec Ideal S512 .f32) (ix1 l) := by
  simp only [V, V0, List.flatten_cons, List.flatten_nil, List.append_nil]
  entry_read
  pointwise

theorem lanes8 (c : Dev nD) (l : Fin 512) :
    (V m c main_v8 : FVec Ideal S1x512 .f32) (ix2 0 l) = (m ((c : Thread nD τ).loc main_arg18) : FVec Ideal S512 .f32) (ix1 l) := by
  simp only [V, V0, List.flatten_cons, List.flatten_nil, List.append_nil]
  entry_read
  pointwise

theorem lanes9 (c : Dev nD) (l : Fin 512) :
    (V m c main_v9 : FVec Ideal S1x512 .f32) (ix2 0 l) = (m ((c : Thread nD τ).loc main_arg19) : FVec Ideal S512 .f32) (ix1 l) := by
  simp only [V, V0, List.flatten_cons, List.flatten_nil, List.append_nil]
  entry_read
  pointwise

theorem lanes10 (c : Dev nD) (l : Fin 512) :
    (V m c main_v10 : FVec Ideal S1x512 .f32) (ix2 0 l) = (m ((c : Thread nD τ).loc main_arg20) : FVec Ideal S512 .f32) (ix1 l) := by
  simp only [V, V0, List.flatten_cons, List.flatten_nil, List.append_nil]
  entry_read
  pointwise

/-! ## The blocks -/

theorem iblk0 (c : Dev nD) (t : Fin cfg0.N) (r : Fin 1280) (i : Fin 7) :
    (iblk m c 0 t : Vec Ideal S1280x7 .f32) (ix2 r i)
      = num ((m ((c : Thread nD τ).loc main_arg0) : IVec S256x200x7 32) (ix3 (pairFst (row t r)) (pairSnd (row t r)) i)) := by
  refine Eq.trans ?_ (nodeFeatures m c (row t r) i)
  have hrow : (row t r).val = t.val * 1280 + r.val := rfl
  blk_ext [iblk, idx t]

theorem iblk1 (c : Dev nD) (t : Fin cfg0.N) (r : Fin 1280) (i : Fin 4) :
    (iblk m c 1 t : Vec Ideal S1280x4 .f32) (ix2 r i)
      = num ((m ((c : Thread nD τ).loc main_arg1) : IVec S256x200x4 32) (ix3 (pairFst (row t r)) (pairSnd (row t r)) i)) := by
  refine Eq.trans ?_ (edgeFeatures m c (row t r) i)
  have hrow : (row t r).val = t.val * 1280 + r.val := rfl
  blk_ext [iblk, idx t]

theorem iblk2 (c : Dev nD) (t : Fin cfg0.N) : (iblk m c 2 t : Vec Ideal S17x512 .f32) = m ((c : Thread nD τ).loc main_arg2) := by
  blk_ext! [iblk, V, idx_whole t]

theorem iblk3 (c : Dev nD) (t : Fin cfg0.N) : (iblk m c 3 t : Vec Ideal S7x512 .f32) = m ((c : Thread nD τ).loc main_arg3) := by
  blk_ext! [iblk, V, idx_whole t]

theorem iblk4 (c : Dev nD) (t : Fin cfg0.N) : (iblk m c 4 t : Vec Ideal S2x512 .f32) = m ((c : Thread nD τ).loc main_arg4) := by
  blk_ext! [iblk, V, idx_whole t]

theorem iblk5 (c : Dev nD) (t : Fin cfg0.N) : (iblk m c 5 t : Vec Ideal S8x512 .f32) = m ((c : Thread nD τ).loc main_arg5) := by
  blk_ext! [iblk, V, idx_whole t]

theorem iblk6 (c : Dev nD) (t : Fin cfg0.N) : (iblk m c 6 t : Vec Ideal S2x512 .f32) = m ((c : Thread nD τ).loc main_arg6) := by
  blk_ext! [iblk, V, idx_whole t]

theorem iblk7 (c : Dev nD) (t : Fin cfg0.N) : (iblk m c 7 t : Vec Ideal S4x512 .f32) = m ((c : Thread nD τ).loc main_arg7) := by
  blk_ext! [iblk, V, idx_whole t]

theorem iblk8 (c : Dev nD) (t : Fin cfg0.N) : (iblk m c 8 t : Vec Ideal S7x512 .f32) = m ((c : Thread nD τ).loc main_arg8) := by
  blk_ext! [iblk, V, idx_whole t]

theorem iblk9 (c : Dev nD) (t : Fin cfg0.N) : (iblk m c 9 t : Vec Ideal S6x512 .f32) = m ((c : Thread nD τ).loc main_arg13) := by
  blk_ext! [iblk, V, idx_whole t]

theorem iblk10 (c : Dev nD) (t : Fin cfg0.N) : (iblk m c 10 t : Vec Ideal S2x512 .f32) = m ((c : Thread nD τ).loc main_arg14) := by
  blk_ext! [iblk, V, idx_whole t]

theorem iblk11 (c : Dev nD) (t : Fin cfg0.N) : (iblk m c 11 t : Vec Ideal S2x512 .f32) = m ((c : Thread nD τ).loc main_arg15) := by
  blk_ext! [iblk, V, idx_whole t]

theorem iblk12 (c : Dev nD) (t : Fin cfg0.N) : (iblk m c 12 t : Vec Ideal S6x512 .f32) = m ((c : Thread nD τ).loc main_arg16) := by
  blk_ext! [iblk, V, idx_whole t]

theorem iblk13 (c : Dev nD) (t : Fin cfg0.N) : (iblk m c 13 t : Vec Ideal S1024x512 .f32) = V m c main_v4 := by
  blk_ext! [iblk, idx_whole t]

theorem iblk14 (c : Dev nD) (t : Fin cfg0.N) : (iblk m c 14 t : Vec Ideal S1x512 .f32) = V m c main_v5 := by
  blk_ext! [iblk, idx_whole t]

theorem iblk15 (c : Dev nD) (t : Fin cfg0.N) : (iblk m c 15 t : Vec Ideal S1x512 .f32) = V m c main_v6 := by
  blk_ext! [iblk, idx_whole t]

theorem iblk16 (c : Dev nD) (t : Fin cfg0.N) : (iblk m c 16 t : Vec Ideal S1x512 .f32) = V m c main_v7 := by
  blk_ext! [iblk, idx_whole t]

theorem iblk17 (c : Dev nD) (t : Fin cfg0.N) : (iblk m c 17 t : Vec Ideal S1x512 .f32) = V m c main_v8 := by
  blk_ext! [iblk, idx_whole t]

theorem iblk18 (c : Dev nD) (t : Fin cfg0.N) : (iblk m c 18 t : Vec Ideal S1x512 .f32) = V m c main_v9 := by
  blk_ext! [iblk, idx_whole t]

theorem iblk19 (c : Dev nD) (t : Fin cfg0.N) : (iblk m c 19 t : Vec Ideal S1x512 .f32) = V m c main_v10 := by
  blk_ext! [iblk, idx_whole t]

end Cert.KernelIdeal.Block

end

end
-- ==== Proof.Payload.lean ====
module

public import proofs.«01_k».proof.Proof.Spec
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Payload

open Cert.KernelIdeal Cert.KernelIdeal.Gen Cert.RowMath Cert.Spec

/-- The rows 0 and 1 of the node tables a block holds, at lane `l`. -/
theorem pay2_at (v0 : Vec Ideal S17x512 .f32) (v1 : Vec Ideal S7x512 .f32) (v2 : Vec Ideal S2x512 .f32) (v3 : Vec Ideal S8x512 .f32)
    (v4 : Vec Ideal S2x512 .f32) (v5 : Vec Ideal S4x512 .f32) (v6 : Vec Ideal S7x512 .f32) (i : Fin 7) (l : Fin 512) :
    k0_pay2 v0 v1 v2 v3 v4 v5 v6 (ix2 i l) = nodeTab v0 v1 v2 v3 v4 v5 v6 1 l i - nodeTab v0 v1 v2 v3 v4 v5 v6 0 l i := by
  pointwise [k0_pay2]
  fin_cases i <;> rfl

/-- The sum of the rows 0 of the node tables. -/
theorem pay3_at (v0 : Vec Ideal S17x512 .f32) (v1 : Vec Ideal S7x512 .f32) (v2 : Vec Ideal S2x512 .f32) (v3 : Vec Ideal S8x512 .f32)
    (v4 : Vec Ideal S2x512 .f32) (v5 : Vec Ideal S4x512 .f32) (v6 : Vec Ideal S7x512 .f32) (l : Fin 512) :
    k0_pay3 v0 v1 v2 v3 v4 v5 v6 (ix2 0 l)
      = nodeTab v0 v1 v2 v3 v4 v5 v6 0 l 0 + nodeTab v0 v1 v2 v3 v4 v5 v6 0 l 1 + nodeTab v0 v1 v2 v3 v4 v5 v6 0 l 2
        + nodeTab v0 v1 v2 v3 v4 v5 v6 0 l 3 + nodeTab v0 v1 v2 v3 v4 v5 v6 0 l 4 + nodeTab v0 v1 v2 v3 v4 v5 v6 0 l 5
        + nodeTab v0 v1 v2 v3 v4 v5 v6 0 l 6 := by
  pointwise [k0_pay3]
  rfl

/-- The normalised node row: the kernel's normalisation of the features against the differences `d`, shifted by `z`. -/
theorem pay4_at (d : FVec Ideal S7x512 .f32) (z : FVec Ideal S1x512 .f32) (x : Vec Ideal S1280x7 .f32) (g b : Vec Ideal S1x512 .f32)
    (r : Fin 1280) (l : Fin 512) :
    k0_pay4 d z x g b (ix2 r l)
      = normKernel (fun k => (∑ i : Fin 7, x (ix2 r i) * d (ix2 i k)) + z (ix2 0 k)) (g (ix2 0 l)) (b (ix2 0 l)) l := by
  pointwise [k0_pay4, normKernel, mean]

/-- The product with the two weight matrices laid one above the other. -/
theorem pay5_at (d : FVec Ideal S7x512 .f32) (z : FVec Ideal S1x512 .f32) (x : Vec Ideal S1280x7 .f32) (g b : Vec Ideal S1x512 .f32)
    (w : Vec Ideal S1024x512 .f32) (r : Fin 1280) (l : Fin 1024) :
    k0_pay5 d z x g b w (ix2 r l) = ∑ k : Fin 512, k0_pay4 d z x g b (ix2 r k) * w (ix2 l k) := by
  pointwise [k0_pay5]

/-- The first projection: the upper half of the product, shifted. -/
theorem pay6_at (d : FVec Ideal S7x512 .f32) (z : FVec Ideal S1x512 .f32) (x : Vec Ideal S1280x7 .f32) (g b : Vec Ideal S1x512 .f32)
    (w : Vec Ideal S1024x512 .f32) (c : Vec Ideal S1x512 .f32) (r : Fin 1280) (l : Fin 512) :
    k0_pay6 d z x g b w c (ix2 r l)
      = (∑ k : Fin 512, k0_pay4 d z x g b (ix2 r k) * w (ix2 (l.castLE (by decide)) k)) + c (ix2 0 l) := by
  rw [← pay5_at]
  pointwise [k0_pay6]
  rfl

/-- The second projection: the lower half of the product, shifted. -/
theorem pay7_at (y : FVec Ideal S1280x1024 .f32) (c : Vec Ideal S1x512 .f32) (r : Fin 1280) (l : Fin 512) :
    k0_pay7 y c (ix2 r l) = y (ix2 r (l.natAdd 512)) + c (ix2 0 l) := by
  pointwise [k0_pay7]
  rfl

/-- The sum of the edge rows, before the normalisation. -/
theorem pay8_at (v0 : Vec Ideal S6x512 .f32) (v1 : Vec Ideal S2x512 .f32) (v2 : Vec Ideal S2x512 .f32) (v3 : Vec Ideal S6x512 .f32)
    (x : Vec Ideal S1280x4 .f32) (r : Fin 1280) (l : Fin 512) :
    k0_pay8 v0 v1 v2 v3 x (ix2 r l)
      = (∑ i : Fin 4, x (ix2 r i) * (edgeTab v0 v1 v2 v3 1 l i - edgeTab v0 v1 v2 v3 0 l i))
        + (edgeTab v0 v1 v2 v3 0 l 0 + edgeTab v0 v1 v2 v3 0 l 1 + edgeTab v0 v1 v2 v3 0 l 2 + edgeTab v0 v1 v2 v3 0 l 3) := by
  pointwise [k0_pay8]
  simp only [Fin.sum_univ_four]
  rfl

/-- The normalised edge row. -/
theorem pay1_at (y : FVec Ideal S1280x512 .f32) (g b : Vec Ideal S1x512 .f32) (r : Fin 1280) (l : Fin 512) :
    k0_pay1 y g b (ix2 r l) = normKernel (fun k => y (ix2 r k)) (g (ix2 0 l)) (b (ix2 0 l)) l := by
  pointwise [k0_pay1, normKernel, mean]

end Cert.KernelIdeal.Payload

end

end
-- ==== Proof.KernelRow.lean ====
module

public import proofs.«01_k».proof.Proof.Payload

/-! # One row of a block

What the kernel stores in the row `r` of its four blocks, when that row's features are those of the pair `(p, q)`: the
formulas of `Cert.Spec` for the pair. Here the features are 0 or 1 and the rows 0 and 1 of the tables are real. -/

@[expose] public section

set_option maxRecDepth 16384

noncomputable section

open Idealize.ShloMosaic Idealize.ShloMosaic.TcCoe Idealize.SL.Sem

namespace Cert.KernelIdeal.Row

open Cert.KernelIdeal Cert.KernelIdeal.Gen Cert.KernelIdeal.Payload Cert.RowMath Cert.Spec

section Node

variable (v0 : Vec Ideal S17x512 .f32) (v1 : Vec Ideal S7x512 .f32) (v2 : Vec Ideal S2x512 .f32) (v3 : Vec Ideal S8x512 .f32) (v4 : Vec Ideal S2x512 .f32) (v5 : Vec Ideal S4x512 .f32) (v6 : Vec Ideal S7x512 .f32)
  (f : IVec ⟨3, ![256, 200, 7]⟩ 32) (p : Fin 256) (q : Fin 200) (hf : ∀ i, f (ix3 p q i) = 0#32 ∨ f (ix3 p q i) = 1#32)
  (ht : ∀ j k i, ∃ r : ℝ, nodeTab v0 v1 v2 v3 v4 v5 v6 j k i = r)
  (x : Vec Ideal S1280x7 .f32) (r : Fin 1280) (hx : ∀ i, x (ix2 r i) = num (f (ix3 p q i)))
  (g' b' : Vec Ideal S1x512 .f32) (g b : Lanes 512) (hg : ∀ l, g' (ix2 0 l) = g (ix1 l)) (hb : ∀ l, b' (ix2 0 l) = b (ix1 l))

include hf ht hx hg hb

/-- The node row stored. -/
theorem node_row (l : Fin 512) :
    k0_pay4 (k0_pay2 v0 v1 v2 v3 v4 v5 v6) (k0_pay3 v0 v1 v2 v3 v4 v5 v6) x g' b' (ix2 r l) = Spec.norm (nodeRow f v0 v1 v2 v3 v4 v5 v6 p q) g b l := by
  have hs : ∀ k, (∑ i : Fin 7, x (ix2 r i) * k0_pay2 v0 v1 v2 v3 v4 v5 v6 (ix2 i k)) + k0_pay3 v0 v1 v2 v3 v4 v5 v6 (ix2 0 k) = nodeRow f v0 v1 v2 v3 v4 v5 v6 p q k := fun k => by
    simp only [pay2_at, pay3_at, hx]
    exact delta7 (fun i => f (ix3 p q i)) hf (ht 0 k) (ht 1 k)
  rw [pay4_at, hg, hb]
  simp only [hs]
  exact normKernel_eq_normRef _ (fun k => sum7_isReal _ (ht 0 k) (ht 1 k)) _ _ _

/-- The first projection stored. -/
theorem start_row (w' : Vec Ideal S1024x512 .f32) (w : Mat 512 512) (hw : ∀ l k, w' (ix2 (Fin.castLE (by decide) (l : Fin 512)) k) = w (ix2 l k))
    (c' : Vec Ideal S1x512 .f32) (c : Lanes 512) (hc : ∀ l, c' (ix2 0 l) = c (ix1 l)) (l : Fin 512) :
    k0_pay6 (k0_pay2 v0 v1 v2 v3 v4 v5 v6) (k0_pay3 v0 v1 v2 v3 v4 v5 v6) x g' b' w' c' (ix2 r l) = proj (Spec.norm (nodeRow f v0 v1 v2 v3 v4 v5 v6 p q) g b) w c l := by
  rw [pay6_at, hc]
  simp only [hw, node_row v0 v1 v2 v3 v4 v5 v6 f p q hf ht x r hx g' b' g b hg hb]
  rfl

/-- The second projection stored. -/
theorem end_row (w' : Vec Ideal S1024x512 .f32) (w : Mat 512 512) (hw : ∀ l k, w' (ix2 (Fin.natAdd 512 (l : Fin 512)) k) = w (ix2 l k))
    (c' : Vec Ideal S1x512 .f32) (c : Lanes 512) (hc : ∀ l, c' (ix2 0 l) = c (ix1 l)) (l : Fin 512) :
    k0_pay7 (k0_pay5 (k0_pay2 v0 v1 v2 v3 v4 v5 v6) (k0_pay3 v0 v1 v2 v3 v4 v5 v6) x g' b' w') c' (ix2 r l) = proj (Spec.norm (nodeRow f v0 v1 v2 v3 v4 v5 v6 p q) g b) w c l := by
  rw [pay7_at, hc, pay5_at]
  simp only [hw, node_row v0 v1 v2 v3 v4 v5 v6 f p q hf ht x r hx g' b' g b hg hb]
  rfl

end Node

/-- The edge row stored. -/
theorem edge_row (v0 : Vec Ideal S6x512 .f32) (v1 : Vec Ideal S2x512 .f32) (v2 : Vec Ideal S2x512 .f32) (v3 : Vec Ideal S6x512 .f32)
    (f : IVec ⟨3, ![256, 200, 4]⟩ 32) (p : Fin 256) (q : Fin 200) (hf : ∀ i, f (ix3 p q i) = 0#32 ∨ f (ix3 p q i) = 1#32)
    (ht : ∀ j k i, ∃ r : ℝ, edgeTab v0 v1 v2 v3 j k i = r)
    (x : Vec Ideal S1280x4 .f32) (r : Fin 1280) (hx : ∀ i, x (ix2 r i) = num (f (ix3 p q i)))
    (g' b' : Vec Ideal S1x512 .f32) (g b : Lanes 512) (hg : ∀ l, g' (ix2 0 l) = g (ix1 l)) (hb : ∀ l, b' (ix2 0 l) = b (ix1 l))
    (l : Fin 512) :
    k0_pay1 (k0_pay8 v0 v1 v2 v3 x) g' b' (ix2 r l) = Spec.norm (edgeRow f v0 v1 v2 v3 p q) g b l := by
  have hs : ∀ k, k0_pay8 v0 v1 v2 v3 x (ix2 r k) = edgeRow f v0 v1 v2 v3 p q k := fun k => by
    rw [pay8_at]
    simp only [hx]
    exact delta4 (fun i => f (ix3 p q i)) hf (ht 0 k) (ht 1 k)
  rw [pay1_at, hg, hb]
  simp only [hs]
  exact normKernel_eq_normRef _ (fun k => sum4_isReal _ (ht 0 k) (ht 1 k)) _ _ _

end Cert.KernelIdeal.Row

end

end
-- ==== Proof.KernelPoint.lean ====
module

public import proofs.«01_k».proof.Proof.Block
public import proofs.«01_k».proof.Proof.KernelRow

/-! # The kernel's four arrays after the run

Each array's row `n` holds the formula of `Cert.Spec` for the pair of the row, when the features are 0 or 1 and the rows
0 and 1 of the tables are real. -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.RowMath Cert.Spec Cert.KernelIdeal.Block Cert.KernelIdeal.Row

variable (m : (ℓ : Loc nD τ sig) → Buf (Elt Ideal) ℓ)

/-- The normalised node row of a pair. -/
def nodeX (c : Dev nD) (p : Fin 256) (q : Fin 200) : Fin 512 → EReal :=
  Spec.norm (nodeRow (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) p q) (m ((c : Thread nD τ).loc main_arg17)) (m ((c : Thread nD τ).loc main_arg18))

/-- The first projection of a pair. -/
def startP (c : Dev nD) (p : Fin 256) (q : Fin 200) : Fin 512 → EReal :=
  proj (nodeX m c p q) (m ((c : Thread nD τ).loc main_arg9)) (m ((c : Thread nD τ).loc main_arg10))

/-- The second projection of a pair. -/
def endP (c : Dev nD) (p : Fin 256) (q : Fin 200) : Fin 512 → EReal :=
  proj (nodeX m c p q) (m ((c : Thread nD τ).loc main_arg11)) (m ((c : Thread nD τ).loc main_arg12))

/-- The normalised edge row of a pair. -/
def edgeX (c : Dev nD) (p : Fin 256) (q : Fin 200) : Fin 512 → EReal :=
  Spec.norm (edgeRow (m ((c : Thread nD τ).loc main_arg1)) (m ((c : Thread nD τ).loc main_arg13)) (m ((c : Thread nD τ).loc main_arg14)) (m ((c : Thread nD τ).loc main_arg15)) (m ((c : Thread nD τ).loc main_arg16)) p q) (m ((c : Thread nD τ).loc main_arg19)) (m ((c : Thread nD τ).loc main_arg20))

/-- The 51200 rows of a formula over the pairs. -/
def flat (x : Fin 256 → Fin 200 → Fin 512 → EReal) : FVec Ideal S51200x512 .f32 := fun j => x (pairFst (j 0)) (pairSnd (j 0)) (j 1)

/-- What the precondition says of a launch. -/
structure Good (c : Dev nD) : Prop where
  node : ∀ p q i, (m ((c : Thread nD τ).loc main_arg0) : IVec S256x200x7 32) (ix3 p q i) = 0#32 ∨ (m ((c : Thread nD τ).loc main_arg0) : IVec S256x200x7 32) (ix3 p q i) = 1#32
  edge : ∀ p q i, (m ((c : Thread nD τ).loc main_arg1) : IVec S256x200x4 32) (ix3 p q i) = 0#32 ∨ (m ((c : Thread nD τ).loc main_arg1) : IVec S256x200x4 32) (ix3 p q i) = 1#32
  nodeTab : ∀ j k i, ∃ r : ℝ, nodeTab (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j k i = r
  edgeTab : ∀ j k i, ∃ r : ℝ, edgeTab (m ((c : Thread nD τ).loc main_arg13)) (m ((c : Thread nD τ).loc main_arg14)) (m ((c : Thread nD τ).loc main_arg15)) (m ((c : Thread nD τ).loc main_arg16)) j k i = r

variable {m}

theorem point_node (c : Dev nD) (h : Good m c) (t : Fin cfg0.N) (r : Fin 1280) (l : Fin 512) :
    k0_pay4 (k0_pay2 (iblk m c 2 t) (iblk m c 3 t) (iblk m c 4 t) (iblk m c 5 t) (iblk m c 6 t) (iblk m c 7 t) (iblk m c 8 t)) (k0_pay3 (iblk m c 2 t) (iblk m c 3 t) (iblk m c 4 t) (iblk m c 5 t) (iblk m c 6 t) (iblk m c 7 t) (iblk m c 8 t)) (iblk m c 0 t) (iblk m c 16 t) (iblk m c 17 t) (ix2 r l)
      = nodeX m c (pairFst (row t r)) (pairSnd (row t r)) l := by
  rw [iblk2, iblk3, iblk4, iblk5, iblk6, iblk7, iblk8]
  exact node_row _ _ _ _ _ _ _ _ (pairFst (row t r)) (pairSnd (row t r)) (fun i => h.node _ _ i) h.nodeTab (iblk m c 0 t) r (fun i => iblk0 m c t r i) _ _ _ _ (fun l => by rw [iblk16]; exact lanes7 m c l) (fun l => by rw [iblk17]; exact lanes8 m c l) l

theorem point_start (c : Dev nD) (h : Good m c) (t : Fin cfg0.N) (r : Fin 1280) (l : Fin 512) :
    k0_pay6 (k0_pay2 (iblk m c 2 t) (iblk m c 3 t) (iblk m c 4 t) (iblk m c 5 t) (iblk m c 6 t) (iblk m c 7 t) (iblk m c 8 t)) (k0_pay3 (iblk m c 2 t) (iblk m c 3 t) (iblk m c 4 t) (iblk m c 5 t) (iblk m c 6 t) (iblk m c 7 t) (iblk m c 8 t)) (iblk m c 0 t) (iblk m c 16 t) (iblk m c 17 t) (iblk m c 13 t) (iblk m c 14 t) (ix2 r l)
      = startP m c (pairFst (row t r)) (pairSnd (row t r)) l := by
  rw [iblk2, iblk3, iblk4, iblk5, iblk6, iblk7, iblk8]
  exact start_row _ _ _ _ _ _ _ _ (pairFst (row t r)) (pairSnd (row t r)) (fun i => h.node _ _ i) h.nodeTab (iblk m c 0 t) r (fun i => iblk0 m c t r i) _ _ _ _ (fun l => by rw [iblk16]; exact lanes7 m c l) (fun l => by rw [iblk17]; exact lanes8 m c l) _ _ (fun l k => by rw [iblk13]; exact startWeights m c l k) _ _ (fun l => by rw [iblk14]; exact lanes5 m c l) l

theorem point_end (c : Dev nD) (h : Good m c) (t : Fin cfg0.N) (r : Fin 1280) (l : Fin 512) :
    k0_pay7 (k0_pay5 (k0_pay2 (iblk m c 2 t) (iblk m c 3 t) (iblk m c 4 t) (iblk m c 5 t) (iblk m c 6 t) (iblk m c 7 t) (iblk m c 8 t)) (k0_pay3 (iblk m c 2 t) (iblk m c 3 t) (iblk m c 4 t) (iblk m c 5 t) (iblk m c 6 t) (iblk m c 7 t) (iblk m c 8 t)) (iblk m c 0 t) (iblk m c 16 t) (iblk m c 17 t) (iblk m c 13 t)) (iblk m c 15 t) (ix2 r l)
      = endP m c (pairFst (row t r)) (pairSnd (row t r)) l := by
  rw [iblk2, iblk3, iblk4, iblk5, iblk6, iblk7, iblk8]
  exact end_row _ _ _ _ _ _ _ _ (pairFst (row t r)) (pairSnd (row t r)) (fun i => h.node _ _ i) h.nodeTab (iblk m c 0 t) r (fun i => iblk0 m c t r i) _ _ _ _ (fun l => by rw [iblk16]; exact lanes7 m c l) (fun l => by rw [iblk17]; exact lanes8 m c l) _ _ (fun l k => by rw [iblk13]; exact endWeights m c l k) _ _ (fun l => by rw [iblk15]; exact lanes6 m c l) l

theorem point_edge (c : Dev nD) (h : Good m c) (t : Fin cfg0.N) (r : Fin 1280) (l : Fin 512) :
    k0_pay1 (k0_pay8 (iblk m c 9 t) (iblk m c 10 t) (iblk m c 11 t) (iblk m c 12 t) (iblk m c 1 t)) (iblk m c 18 t) (iblk m c 19 t) (ix2 r l)
      = edgeX m c (pairFst (row t r)) (pairSnd (row t r)) l := by
  rw [iblk9, iblk10, iblk11, iblk12]
  exact edge_row _ _ _ _ _ (pairFst (row t r)) (pairSnd (row t r)) (fun i => h.edge _ _ i) h.edgeTab (iblk m c 1 t) r (fun i => iblk1 m c t r i) _ _ _ _ (fun l => by rw [iblk18]; exact lanes9 m c l) (fun l => by rw [iblk19]; exact lanes10 m c l) l

/-- Where the entry `(r, l)` of an output block lies in its array. -/
theorem place (x : Fin 256 → Fin 200 → Fin 512 → EReal) (t : Fin cfg0.N) (r : Fin 1280) (l : Fin 512) (j : S51200x512.Idx)
    (h0 : (j 0).val = t.val * 1280 + r.val) (h1 : (j 1).val = l.val) : x (pairFst (row t r)) (pairSnd (row t r)) l = flat x j := by
  obtain rfl : j = ix2 (row t r) l := funext fun a => Fin.ext (by
    match a with
    | ⟨0, _⟩ => exact h0
    | ⟨1, _⟩ => exact h1)
  rfl

end Cert.KernelIdeal.Value

end

end
-- ==== Proof.KernelValue.lean ====
module

public import proofs.«01_k».proof.Proof.KernelPoint

/-! # The kernel's four arrays after the run, and the results reshaped from them -/

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.RowMath Cert.Spec Cert.KernelIdeal.Block Cert.KernelIdeal.Row

variable {m : (ℓ : Loc nD τ sig) → Buf (Elt Ideal) ℓ}

/-- The array of the result 1 after the run. -/
theorem final20 (c : Dev nD) (h : Good m c) : (dats m 0 c).arrAt 20 (cfgs 0).N = flat (nodeX m c) := by
  refine (dats m 0 c).arrAt_eq_of_covers 20 _ (by decide +kernel) fun t _ y => ?_
  blk_simp
  rw [after0_20]; frame_out
  unfold k0_pay9 k0_pay10
  frame_out
  idx_vars y
  refine (point_node c h t _ _).trans (place _ t _ _ _ ?_ ?_)
  · blk_simp [idx t]
  · blk_simp [idx t]

/-- The array of the result 2 after the run. -/
theorem final21 (c : Dev nD) (h : Good m c) : (dats m 0 c).arrAt 21 (cfgs 0).N = flat (startP m c) := by
  refine (dats m 0 c).arrAt_eq_of_covers 21 _ (by decide +kernel) fun t _ y => ?_
  blk_simp
  rw [after0_21]; frame_out
  unfold k0_pay9 k0_pay10
  frame_out
  idx_vars y
  refine (point_start c h t _ _).trans (place _ t _ _ _ ?_ ?_)
  · blk_simp [idx t]
  · blk_simp [idx t]

/-- The array of the result 3 after the run. -/
theorem final22 (c : Dev nD) (h : Good m c) : (dats m 0 c).arrAt 22 (cfgs 0).N = flat (endP m c) := by
  refine (dats m 0 c).arrAt_eq_of_covers 22 _ (by decide +kernel) fun t _ y => ?_
  blk_simp
  rw [after0_22]; frame_out
  unfold k0_pay9 k0_pay10
  frame_out
  idx_vars y
  refine (point_end c h t _ _).trans (place _ t _ _ _ ?_ ?_)
  · blk_simp [idx t]
  · blk_simp [idx t]

/-- The array of the result 4 after the run. -/
theorem final23 (c : Dev nD) (h : Good m c) : (dats m 0 c).arrAt 23 (cfgs 0).N = flat (edgeX m c) := by
  refine (dats m 0 c).arrAt_eq_of_covers 23 _ (by decide +kernel) fun t _ y => ?_
  blk_simp
  rw [after0_23]; frame_out
  idx_vars y
  refine (point_edge c h t _ _).trans (place _ t _ _ _ ?_ ?_)
  · blk_simp [idx t]
  · blk_simp [idx t]

/-- The 51200 rows laid out over the pairs. -/
theorem unflat (x : Fin 256 → Fin 200 → Fin 512 → EReal) :
    shapeCast S256x200x512 (flat x) shapeCasts_S51200x512_S256x200x512 = rows x := by
  funext i
  idx_vars i
  pointwise
  have h0 : pairFst ⟨i0.val * 200 + i1.val, by omega⟩ = i0 := Fin.ext (by show (i0.val * 200 + i1.val) / 200 = i0.val; omega)
  have h1 : pairSnd ⟨i0.val * 200 + i1.val, by omega⟩ = i1 := Fin.ext (by show (i0.val * 200 + i1.val) % 200 = i1.val; omega)
  exact congrArg₂ (fun p q => x p q i2) h0 h1

end Cert.KernelIdeal.Value

end

end
-- ==== Proof.KernelRun.lean ====
module

public import proofs.«01_k».proof.Proof.KernelValue
public import Idealize.ShloMosaic.Lib.Claim

/-! # What a launch of the kernel leaves

The four results are the rows of `Cert.Spec` over the pairs, and every argument is left as it was. -/

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

variable {m : (ℓ : Loc nD τ sig) → Buf (Elt Ideal) ℓ}

/-- The arrays the launch works on are all different. -/
theorem arrays_differ : Function.Injective (Pipeline.arrRef (cfgs 0).spec) := by decide +kernel

/-- An array holding the rows of `x`, laid out over the pairs. -/
theorem laid_out (x : Fin 256 → Fin 200 → Fin 512 → EReal) (a : FVec Ideal S51200x512 .f32) (ha : a = flat x) :
    shapeCast S256x200x512 a shapeCasts_S51200x512_S256x200x512 = rows x := by
  rw [ha, unflat]

/-- The first result after the closing reshapes. -/
theorem closing12 (c : Dev nD) (h : Good m c) :
    Pipeline.afterTail₀ cfgs (dats m) 0 (V0 m) [hostOps1] c main_v12 = rows (nodeX m c) := by
  unfold Pipeline.afterTail₀
  simp only [List.flatten_cons, List.flatten_nil, List.append_nil]
  entry_read
  exact laid_out _ _ ((Pipeline.withArrays_arr (cfgs 0).spec arrays_differ c (V0 m c) _ 20).trans (final20 c h))

/-- The second result after the closing reshapes. -/
theorem closing13 (c : Dev nD) (h : Good m c) :
    Pipeline.afterTail₀ cfgs (dats m) 0 (V0 m) [hostOps1] c main_v13 = rows (startP m c) := by
  unfold Pipeline.afterTail₀
  simp only [List.flatten_cons, List.flatten_nil, List.append_nil]
  entry_read
  exact laid_out _ _ ((Pipeline.withArrays_arr (cfgs 0).spec arrays_differ c (V0 m c) _ 21).trans (final21 c h))

/-- The third result after the closing reshapes. -/
theorem closing14 (c : Dev nD) (h : Good m c) :
    Pipeline.afterTail₀ cfgs (dats m) 0 (V0 m) [hostOps1] c main_v14 = rows (endP m c) := by
  unfold Pipeline.afterTail₀
  simp only [List.flatten_cons, List.flatten_nil, List.append_nil]
  entry_read
  exact laid_out _ _ ((Pipeline.withArrays_arr (cfgs 0).spec arrays_differ c (V0 m c) _ 22).trans (final22 c h))

/-- The fourth result after the closing reshapes. -/
theorem closing15 (c : Dev nD) (h : Good m c) :
    Pipeline.afterTail₀ cfgs (dats m) 0 (V0 m) [hostOps1] c main_v15 = rows (edgeX m c) := by
  unfold Pipeline.afterTail₀
  simp only [List.flatten_cons, List.flatten_nil, List.append_nil]
  entry_read
  exact laid_out _ _ ((Pipeline.withArrays_arr (cfgs 0).spec arrays_differ c (V0 m c) _ 23).trans (final23 c h))

variable (m) in
set_option maxHeartbeats 1600000 in
/-- The run of the kernel: the four results, and the arguments unchanged. -/
theorem run (g : Dev nD → PrngReg) (h : ∀ c, Good m c) :
    θ_run defs (onTc (τ := τ) (main (F := Ideal))) ⟨m, fun _ => 0, g⟩ fun r => ∀ c : Dev nD,
      r.2.mem ((c.tc : Thread nD τ).loc main_v12) = rows (nodeX m c)
      ∧ r.2.mem ((c.tc : Thread nD τ).loc main_v13) = rows (startP m c)
      ∧ r.2.mem ((c.tc : Thread nD τ).loc main_v14) = rows (endP m c)
      ∧ r.2.mem ((c.tc : Thread nD τ).loc main_v15) = rows (edgeX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  run_from Cert.KernelIdeal.Gen.run_main m g
  · exact closing12 c (h c)
  · exact closing13 c (h c)
  · exact closing14 c (h c)
  · exact closing15 c (h c)
  · exact W_main_arg0 m (dats m) c
  · exact W_main_arg1 m (dats m) c
  · exact W_main_arg9 m (dats m) c
  · exact W_main_arg10 m (dats m) c
  · exact W_main_arg11 m (dats m) c
  · exact W_main_arg12 m (dats m) c
  · exact W_main_arg17 m (dats m) c
  · exact W_main_arg18 m (dats m) c
  · exact W_main_arg19 m (dats m) c
  · exact W_main_arg20 m (dats m) c

end Cert.KernelIdeal.Value

end

end
-- ==== Proof.RefLookup.lean ====
module

public import proofs.«01_k».proof.Proof.RowMath
public import proofs.«01_k».proof.Proof.Gen.ReferenceIdeal.Read

/-! # The reference's lookups

A feature word that is 0 or 1 is not wrapped, and the row that the lookup reads is the row of that number. One theorem
for the wrapping, one for a lookup in a table of any number of rows, and then one pair for each of the eleven lookups. -/

@[expose] public section

set_option maxRecDepth 16384

noncomputable section

open Idealize.ShloMosaic Idealize.ShloMosaic.TcCoe Idealize.SL.Sem

namespace Cert.ReferenceIdeal.Lookup

open Cert.ReferenceIdeal Cert.ReferenceIdeal.Gen Cert.ReferenceIdeal.Read Cert.RowMath

/-- A word that is 0 or 1 is not negative, so the number of rows is not added to it. -/
theorem wrapped {w n : BitVec 32} (h : w = 0#32 ∨ w = 1#32) :
    Scalar.select (IntOp.cmpi .slt w 0#32) (IntOp.addi w n) w = w := by
  rcases h with rfl | rfl <;> rfl

/-- The dimension numbers of a lookup of rows by an array of words of three axes, the last of size one. -/
abbrev rowDims (N : Nat) (wf : GatherDims.WF ⟨2, ![N, 512]⟩ ⟨3, ![256, 200, 1]⟩ ⟨3, ![256, 200, 512]⟩ [2] [0] [] [0] [] 2 ![1, 512]) :
    GatherDims ⟨2, ![N, 512]⟩ ⟨3, ![256, 200, 1]⟩ ⟨3, ![256, 200, 512]⟩ where
  offsetDims := [2]
  collapsedSliceDims := [0]
  operandBatchingDims := []
  startIndicesBatchingDims := []
  startIndexMap := [0]
  indexVectorDim := 2
  sliceSizes := ![1, 512]
  wf := wf

/-- A lookup read at an entry: the row is the word's number, cut to the table. -/
theorem gather_row {N : Nat} (hN : 0 < N)
    (wf : GatherDims.WF ⟨2, ![N, 512]⟩ ⟨3, ![256, 200, 1]⟩ ⟨3, ![256, 200, 512]⟩ [2] [0] [] [0] [] 2 ![1, 512])
    (t : (⟨2, ![N, 512]⟩ : Shape).Idx → EReal) (idx : IVec ⟨3, ![256, 200, 1]⟩ 32) (p : Fin 256) (q : Fin 200) (l : Fin 512) :
    Host.gather (rowDims N wf) t idx (ix3 p q l) = t (ix2 ⟨min (idx (ix3 p q 0)).toInt.toNat (N - 1), by omega⟩ l) := by
  unfold Host.gather
  refine congrArg t (funext fun a => Fin.ext ?_)
  show (rowDims N wf).start (ix3 p q l) idx a + (rowDims N wf).batchCoord (ix3 p q l) a + (rowDims N wf).offCoord (ix3 p q l) a = _
  rw [(rowDims N wf).batchCoord_eq_zero _ _ List.not_mem_nil, Nat.add_zero]
  match a with
  | ⟨0, _⟩ =>
    have hcut : (0 : Fin 2) ∉ (rowDims N wf).sKept := fun h => (((rowDims N wf).mem_sKept 0).1 h).1 (List.mem_singleton.2 rfl)
    have hstart : (0 : Fin 2) ∈ (rowDims N wf).startIndexMap := List.mem_singleton.2 rfl
    show (rowDims N wf).start (ix3 p q l) idx 0 + (rowDims N wf).offCoord (ix3 p q l) 0 = _
    rw [(rowDims N wf).offCoord_eq_zero _ _ hcut, Nat.add_zero]
    unfold GatherDims.start
    rw [dif_pos hstart]
    have hword : (rowDims N wf).siIdx (ix3 p q l) ⟨List.idxOf (0 : Fin 2) (rowDims N wf).startIndexMap, List.idxOf_lt_length_iff.2 hstart⟩
        = ix3 p q 0 := funext fun b => Fin.ext (by
      match b with
      | ⟨0, _⟩ => rfl
      | ⟨1, _⟩ => rfl
      | ⟨2, _⟩ => rfl)
    rw [hword]
    rfl
  | ⟨1, _⟩ =>
    have hkept : (1 : Fin 2) ∈ (rowDims N wf).sKept := ((rowDims N wf).mem_sKept 1).2 ⟨fun h => one_ne_zero (List.mem_singleton.1 h), List.not_mem_nil⟩
    have hfree : (1 : Fin 2) ∉ (rowDims N wf).startIndexMap := fun h => one_ne_zero (List.mem_singleton.1 h)
    show (rowDims N wf).start (ix3 p q l) idx 1 + (rowDims N wf).offCoord (ix3 p q l) 1 = l.val
    unfold GatherDims.start GatherDims.offCoord
    rw [dif_neg hfree, dif_pos hkept]
    exact Nat.zero_add _

/-- A lookup by a word that is 0 or 1 reads the row 0 or the row 1. -/
theorem gather_pick {N : Nat} (hN : 1 < N)
    (wf : GatherDims.WF ⟨2, ![N, 512]⟩ ⟨3, ![256, 200, 1]⟩ ⟨3, ![256, 200, 512]⟩ [2] [0] [] [0] [] 2 ![1, 512])
    (t : (⟨2, ![N, 512]⟩ : Shape).Idx → EReal) (idx : IVec ⟨3, ![256, 200, 1]⟩ 32) (p : Fin 256) (q : Fin 200) (l : Fin 512)
    (w : BitVec 32) (hidx : idx (ix3 p q 0) = w) (hw : w = 0#32 ∨ w = 1#32) :
    Host.gather (rowDims N wf) t idx (ix3 p q l)
      = pick w (t (ix2 ⟨0, by omega⟩ l)) (t (ix2 ⟨1, hN⟩ l)) := by
  rw [gather_row (by omega)]
  rcases hw with rfl | rfl
  · refine congrArg t (congrArg (fun r => ix2 r l) (Fin.ext ?_))
    show min (idx (ix3 p q 0)).toInt.toNat (N - 1) = 0
    rw [hidx]
    exact Nat.zero_min _
  · refine congrArg t (congrArg (fun r => ix2 r l) (Fin.ext ?_))
    show min (idx (ix3 p q 0)).toInt.toNat (N - 1) = 1
    rw [hidx]
    show min 1 (N - 1) = 1
    omega

theorem word_v7 (x0 : (⟨S256x200x7, .i32⟩ : BufTy).Contents (Elt Ideal)) (p : Fin 256) (q : Fin 200) (h : x0 (ix3 p q 0) = 0#32 ∨ x0 (ix3 p q 0) = 1#32) :
    val_main_v7 (F := Ideal) x0 (ix3 p q 0) = x0 (ix3 p q 0) := by
  pointwise [val_main_v7, val_main_v6, val_main_v5, val_main_v4, val_main_v3, val_main_v2, val_main_v1, val_main_v0, val_main_c, val_main_c_0]
  exact wrapped h

theorem gathered_v8 (x0 : (⟨S256x200x7, .i32⟩ : BufTy).Contents (Elt Ideal)) (t : (⟨S17x512, .f32⟩ : BufTy).Contents (Elt Ideal)) (p : Fin 256) (q : Fin 200) (l : Fin 512)
    (h : x0 (ix3 p q 0) = 0#32 ∨ x0 (ix3 p q 0) = 1#32) :
    val_main_v8 (F := Ideal) x0 t (ix3 p q l) = pick (x0 (ix3 p q 0)) (t (ix2 0 l)) (t (ix2 1 l)) :=
  gather_pick (N := 17) (by decide) _ t _ p q l _ (word_v7 x0 p q h) h

theorem word_v16 (x0 : (⟨S256x200x7, .i32⟩ : BufTy).Contents (Elt Ideal)) (p : Fin 256) (q : Fin 200) (h : x0 (ix3 p q 1) = 0#32 ∨ x0 (ix3 p q 1) = 1#32) :
    val_main_v16 (F := Ideal) x0 (ix3 p q 0) = x0 (ix3 p q 1) := by
  pointwise [val_main_v16, val_main_v15, val_main_v14, val_main_v13, val_main_v12, val_main_v11, val_main_v10, val_main_v9, val_main_c_1, val_main_c_2]
  exact wrapped h

theorem gathered_v17 (x0 : (⟨S256x200x7, .i32⟩ : BufTy).Contents (Elt Ideal)) (t : (⟨S7x512, .f32⟩ : BufTy).Contents (Elt Ideal)) (p : Fin 256) (q : Fin 200) (l : Fin 512)
    (h : x0 (ix3 p q 1) = 0#32 ∨ x0 (ix3 p q 1) = 1#32) :
    val_main_v17 (F := Ideal) x0 t (ix3 p q l) = pick (x0 (ix3 p q 1)) (t (ix2 0 l)) (t (ix2 1 l)) :=
  gather_pick (N := 7) (by decide) _ t _ p q l _ (word_v16 x0 p q h) h

theorem word_v26 (x0 : (⟨S256x200x7, .i32⟩ : BufTy).Contents (Elt Ideal)) (p : Fin 256) (q : Fin 200) (h : x0 (ix3 p q 2) = 0#32 ∨ x0 (ix3 p q 2) = 1#32) :
    val_main_v26 (F := Ideal) x0 (ix3 p q 0) = x0 (ix3 p q 2) := by
  pointwise [val_main_v26, val_main_v25, val_main_v24, val_main_v23, val_main_v22, val_main_v21, val_main_v20, val_main_v19, val_main_c_3, val_main_c_4]
  exact wrapped h

theorem gathered_v27 (x0 : (⟨S256x200x7, .i32⟩ : BufTy).Contents (Elt Ideal)) (t : (⟨S2x512, .f32⟩ : BufTy).Contents (Elt Ideal)) (p : Fin 256) (q : Fin 200) (l : Fin 512)
    (h : x0 (ix3 p q 2) = 0#32 ∨ x0 (ix3 p q 2) = 1#32) :
    val_main_v27 (F := Ideal) x0 t (ix3 p q l) = pick (x0 (ix3 p q 2)) (t (ix2 0 l)) (t (ix2 1 l)) :=
  gather_pick (N := 2) (by decide) _ t _ p q l _ (word_v26 x0 p q h) h

theorem word_v36 (x0 : (⟨S256x200x7, .i32⟩ : BufTy).Contents (Elt Ideal)) (p : Fin 256) (q : Fin 200) (h : x0 (ix3 p q 3) = 0#32 ∨ x0 (ix3 p q 3) = 1#32) :
    val_main_v36 (F := Ideal) x0 (ix3 p q 0) = x0 (ix3 p q 3) := by
  pointwise [val_main_v36, val_main_v35, val_main_v34, val_main_v33, val_main_v32, val_main_v31, val_main_v30, val_main_v29, val_main_c_5, val_main_c_6]
  exact wrapped h

theorem gathered_v37 (x0 : (⟨S256x200x7, .i32⟩ : BufTy).Contents (Elt Ideal)) (t : (⟨S8x512, .f32⟩ : BufTy).Contents (Elt Ideal)) (p : Fin 256) (q : Fin 200) (l : Fin 512)
    (h : x0 (ix3 p q 3) = 0#32 ∨ x0 (ix3 p q 3) = 1#32) :
    val_main_v37 (F := Ideal) x0 t (ix3 p q l) = pick (x0 (ix3 p q 3)) (t (ix2 0 l)) (t (ix2 1 l)) :=
  gather_pick (N := 8) (by decide) _ t _ p q l _ (word_v36 x0 p q h) h

theorem word_v46 (x0 : (⟨S256x200x7, .i32⟩ : BufTy).Contents (Elt Ideal)) (p : Fin 256) (q : Fin 200) (h : x0 (ix3 p q 4) = 0#32 ∨ x0 (ix3 p q 4) = 1#32) :
    val_main_v46 (F := Ideal) x0 (ix3 p q 0) = x0 (ix3 p q 4) := by
  pointwise [val_main_v46, val_main_v45, val_main_v44, val_main_v43, val_main_v42, val_main_v41, val_main_v40, val_main_v39, val_main_c_7, val_main_c_8]
  exact wrapped h

theorem gathered_v47 (x0 : (⟨S256x200x7, .i32⟩ : BufTy).Contents (Elt Ideal)) (t : (⟨S2x512, .f32⟩ : BufTy).Contents (Elt Ideal)) (p : Fin 256) (q : Fin 200) (l : Fin 512)
    (h : x0 (ix3 p q 4) = 0#32 ∨ x0 (ix3 p q 4) = 1#32) :
    val_main_v47 (F := Ideal) x0 t (ix3 p q l) = pick (x0 (ix3 p q 4)) (t (ix2 0 l)) (t (ix2 1 l)) :=
  gather_pick (N := 2) (by decide) _ t _ p q l _ (word_v46 x0 p q h) h

theorem word_v56 (x0 : (⟨S256x200x7, .i32⟩ : BufTy).Contents (Elt Ideal)) (p : Fin 256) (q : Fin 200) (h : x0 (ix3 p q 5) = 0#32 ∨ x0 (ix3 p q 5) = 1#32) :
    val_main_v56 (F := Ideal) x0 (ix3 p q 0) = x0 (ix3 p q 5) := by
  pointwise [val_main_v56, val_main_v55, val_main_v54, val_main_v53, val_main_v52, val_main_v51, val_main_v50, val_main_v49, val_main_c_9, val_main_c_10]
  exact wrapped h

theorem gathered_v57 (x0 : (⟨S256x200x7, .i32⟩ : BufTy).Contents (Elt Ideal)) (t : (⟨S4x512, .f32⟩ : BufTy).Contents (Elt Ideal)) (p : Fin 256) (q : Fin 200) (l : Fin 512)
    (h : x0 (ix3 p q 5) = 0#32 ∨ x0 (ix3 p q 5) = 1#32) :
    val_main_v57 (F := Ideal) x0 t (ix3 p q l) = pick (x0 (ix3 p q 5)) (t (ix2 0 l)) (t (ix2 1 l)) :=
  gather_pick (N := 4) (by decide) _ t _ p q l _ (word_v56 x0 p q h) h

theorem word_v66 (x0 : (⟨S256x200x7, .i32⟩ : BufTy).Contents (Elt Ideal)) (p : Fin 256) (q : Fin 200) (h : x0 (ix3 p q 6) = 0#32 ∨ x0 (ix3 p q 6) = 1#32) :
    val_main_v66 (F := Ideal) x0 (ix3 p q 0) = x0 (ix3 p q 6) := by
  pointwise [val_main_v66, val_main_v65, val_main_v64, val_main_v63, val_main_v62, val_main_v61, val_main_v60, val_main_v59, val_main_c_11, val_main_c_12]
  exact wrapped h

theorem gathered_v67 (x0 : (⟨S256x200x7, .i32⟩ : BufTy).Contents (Elt Ideal)) (t : (⟨S7x512, .f32⟩ : BufTy).Contents (Elt Ideal)) (p : Fin 256) (q : Fin 200) (l : Fin 512)
    (h : x0 (ix3 p q 6) = 0#32 ∨ x0 (ix3 p q 6) = 1#32) :
    val_main_v67 (F := Ideal) x0 t (ix3 p q l) = pick (x0 (ix3 p q 6)) (t (ix2 0 l)) (t (ix2 1 l)) :=
  gather_pick (N := 7) (by decide) _ t _ p q l _ (word_v66 x0 p q h) h

theorem word_v110 (x1 : (⟨S256x200x4, .i32⟩ : BufTy).Contents (Elt Ideal)) (p : Fin 256) (q : Fin 200) (h : x1 (ix3 p q 0) = 0#32 ∨ x1 (ix3 p q 0) = 1#32) :
    val_main_v110 (F := Ideal) x1 (ix3 p q 0) = x1 (ix3 p q 0) := by
  pointwise [val_main_v110, val_main_v109, val_main_v108, val_main_v107, val_main_v106, val_main_v105, val_main_v104, val_main_v103, val_main_c_17, val_main_c_18]
  exact wrapped h

theorem gathered_v111 (x1 : (⟨S256x200x4, .i32⟩ : BufTy).Contents (Elt Ideal)) (t : (⟨S6x512, .f32⟩ : BufTy).Contents (Elt Ideal)) (p : Fin 256) (q : Fin 200) (l : Fin 512)
    (h : x1 (ix3 p q 0) = 0#32 ∨ x1 (ix3 p q 0) = 1#32) :
    val_main_v111 (F := Ideal) x1 t (ix3 p q l) = pick (x1 (ix3 p q 0)) (t (ix2 0 l)) (t (ix2 1 l)) :=
  gather_pick (N := 6) (by decide) _ t _ p q l _ (word_v110 x1 p q h) h

theorem word_v119 (x1 : (⟨S256x200x4, .i32⟩ : BufTy).Contents (Elt Ideal)) (p : Fin 256) (q : Fin 200) (h : x1 (ix3 p q 1) = 0#32 ∨ x1 (ix3 p q 1) = 1#32) :
    val_main_v119 (F := Ideal) x1 (ix3 p q 0) = x1 (ix3 p q 1) := by
  pointwise [val_main_v119, val_main_v118, val_main_v117, val_main_v116, val_main_v115, val_main_v114, val_main_v113, val_main_v112, val_main_c_19, val_main_c_20]
  exact wrapped h

theorem gathered_v120 (x1 : (⟨S256x200x4, .i32⟩ : BufTy).Contents (Elt Ideal)) (t : (⟨S2x512, .f32⟩ : BufTy).Contents (Elt Ideal)) (p : Fin 256) (q : Fin 200) (l : Fin 512)
    (h : x1 (ix3 p q 1) = 0#32 ∨ x1 (ix3 p q 1) = 1#32) :
    val_main_v120 (F := Ideal) x1 t (ix3 p q l) = pick (x1 (ix3 p q 1)) (t (ix2 0 l)) (t (ix2 1 l)) :=
  gather_pick (N := 2) (by decide) _ t _ p q l _ (word_v119 x1 p q h) h

theorem word_v129 (x1 : (⟨S256x200x4, .i32⟩ : BufTy).Contents (Elt Ideal)) (p : Fin 256) (q : Fin 200) (h : x1 (ix3 p q 2) = 0#32 ∨ x1 (ix3 p q 2) = 1#32) :
    val_main_v129 (F := Ideal) x1 (ix3 p q 0) = x1 (ix3 p q 2) := by
  pointwise [val_main_v129, val_main_v128, val_main_v127, val_main_v126, val_main_v125, val_main_v124, val_main_v123, val_main_v122, val_main_c_21, val_main_c_22]
  exact wrapped h

theorem gathered_v130 (x1 : (⟨S256x200x4, .i32⟩ : BufTy).Contents (Elt Ideal)) (t : (⟨S2x512, .f32⟩ : BufTy).Contents (Elt Ideal)) (p : Fin 256) (q : Fin 200) (l : Fin 512)
    (h : x1 (ix3 p q 2) = 0#32 ∨ x1 (ix3 p q 2) = 1#32) :
    val_main_v130 (F := Ideal) x1 t (ix3 p q l) = pick (x1 (ix3 p q 2)) (t (ix2 0 l)) (t (ix2 1 l)) :=
  gather_pick (N := 2) (by decide) _ t _ p q l _ (word_v129 x1 p q h) h

theorem word_v139 (x1 : (⟨S256x200x4, .i32⟩ : BufTy).Contents (Elt Ideal)) (p : Fin 256) (q : Fin 200) (h : x1 (ix3 p q 3) = 0#32 ∨ x1 (ix3 p q 3) = 1#32) :
    val_main_v139 (F := Ideal) x1 (ix3 p q 0) = x1 (ix3 p q 3) := by
  pointwise [val_main_v139, val_main_v138, val_main_v137, val_main_v136, val_main_v135, val_main_v134, val_main_v133, val_main_v132, val_main_c_23, val_main_c_24]
  exact wrapped h

theorem gathered_v140 (x1 : (⟨S256x200x4, .i32⟩ : BufTy).Contents (Elt Ideal)) (t : (⟨S6x512, .f32⟩ : BufTy).Contents (Elt Ideal)) (p : Fin 256) (q : Fin 200) (l : Fin 512)
    (h : x1 (ix3 p q 3) = 0#32 ∨ x1 (ix3 p q 3) = 1#32) :
    val_main_v140 (F := Ideal) x1 t (ix3 p q l) = pick (x1 (ix3 p q 3)) (t (ix2 0 l)) (t (ix2 1 l)) :=
  gather_pick (N := 6) (by decide) _ t _ p q l _ (word_v139 x1 p q h) h

end Cert.ReferenceIdeal.Lookup

end

end
-- ==== Proof.RefValue.lean ====
module

public import proofs.«01_k».proof.Proof.Spec
public import proofs.«01_k».proof.Proof.RefLookup

/-! # The reference's four results

Each result of the reference, read at an entry, is the formula of `Cert.Spec` there: first the sums of the rows looked
up, then their normalisation, then the two projections. -/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.ReferenceIdeal.Lookup Cert.RowMath Cert.Spec

/-- The sum of the node rows looked up. -/
theorem node_sum (x0 : (⟨S256x200x7, .i32⟩ : BufTy).Contents (Elt Ideal)) (x2 : (⟨S17x512, .f32⟩ : BufTy).Contents (Elt Ideal)) (x3 : (⟨S7x512, .f32⟩ : BufTy).Contents (Elt Ideal)) (x4 : (⟨S2x512, .f32⟩ : BufTy).Contents (Elt Ideal)) (x5 : (⟨S8x512, .f32⟩ : BufTy).Contents (Elt Ideal)) (x6 : (⟨S2x512, .f32⟩ : BufTy).Contents (Elt Ideal)) (x7 : (⟨S4x512, .f32⟩ : BufTy).Contents (Elt Ideal)) (x8 : (⟨S7x512, .f32⟩ : BufTy).Contents (Elt Ideal)) (h : ∀ p q i, x0 (ix3 p q i) = 0#32 ∨ x0 (ix3 p q i) = 1#32)
    (p : Fin 256) (q : Fin 200) (l : Fin 512) :
    val_main_v68 (F := Ideal) x0 x2 x3 x4 x5 x6 x7 x8 (ix3 p q l) = nodeRow x0 x2 x3 x4 x5 x6 x7 x8 p q l := by
  rw [val_main_v68_apply, val_main_v58_apply, val_main_v48_apply, val_main_v38_apply, val_main_v28_apply, val_main_v18_apply,
    gathered_v8 _ _ _ _ _ (h _ _ _), gathered_v17 _ _ _ _ _ (h _ _ _), gathered_v27 _ _ _ _ _ (h _ _ _), gathered_v37 _ _ _ _ _ (h _ _ _), gathered_v47 _ _ _ _ _ (h _ _ _), gathered_v57 _ _ _ _ _ (h _ _ _), gathered_v67 _ _ _ _ _ (h _ _ _)]
  rfl

/-- The sum of the edge rows looked up. -/
theorem edge_sum (x1 : (⟨S256x200x4, .i32⟩ : BufTy).Contents (Elt Ideal)) (x13 : (⟨S6x512, .f32⟩ : BufTy).Contents (Elt Ideal)) (x14 : (⟨S2x512, .f32⟩ : BufTy).Contents (Elt Ideal)) (x15 : (⟨S2x512, .f32⟩ : BufTy).Contents (Elt Ideal)) (x16 : (⟨S6x512, .f32⟩ : BufTy).Contents (Elt Ideal)) (h : ∀ p q i, x1 (ix3 p q i) = 0#32 ∨ x1 (ix3 p q i) = 1#32)
    (p : Fin 256) (q : Fin 200) (l : Fin 512) :
    val_main_v141 (F := Ideal) x1 x13 x14 x15 x16 (ix3 p q l) = edgeRow x1 x13 x14 x15 x16 p q l := by
  rw [val_main_v141_apply, val_main_v131_apply, val_main_v121_apply,
    gathered_v111 _ _ _ _ _ (h _ _ _), gathered_v120 _ _ _ _ _ (h _ _ _), gathered_v130 _ _ _ _ _ (h _ _ _), gathered_v140 _ _ _ _ _ (h _ _ _)]
  rfl

/-- The normalised node rows. -/
theorem node_norm (x0 : (⟨S256x200x7, .i32⟩ : BufTy).Contents (Elt Ideal)) (x2 : (⟨S17x512, .f32⟩ : BufTy).Contents (Elt Ideal)) (x3 : (⟨S7x512, .f32⟩ : BufTy).Contents (Elt Ideal)) (x4 : (⟨S2x512, .f32⟩ : BufTy).Contents (Elt Ideal)) (x5 : (⟨S8x512, .f32⟩ : BufTy).Contents (Elt Ideal)) (x6 : (⟨S2x512, .f32⟩ : BufTy).Contents (Elt Ideal)) (x7 : (⟨S4x512, .f32⟩ : BufTy).Contents (Elt Ideal)) (x8 : (⟨S7x512, .f32⟩ : BufTy).Contents (Elt Ideal)) (x17 : (⟨S512, .f32⟩ : BufTy).Contents (Elt Ideal)) (x18 : (⟨S512, .f32⟩ : BufTy).Contents (Elt Ideal)) (h : ∀ p q i, x0 (ix3 p q i) = 0#32 ∨ x0 (ix3 p q i) = 1#32)
    (p : Fin 256) (q : Fin 200) (l : Fin 512) :
    val_main_v92 (F := Ideal) x0 x2 x3 x4 x5 x6 x7 x8 x17 x18 (ix3 p q l) = Spec.norm (nodeRow x0 x2 x3 x4 x5 x6 x7 x8 p q) x17 x18 l := by
  have hs : ∀ k, val_main_v68 (F := Ideal) x0 x2 x3 x4 x5 x6 x7 x8 (ix3 p q k) = nodeRow x0 x2 x3 x4 x5 x6 x7 x8 p q k := fun k => node_sum x0 x2 x3 x4 x5 x6 x7 x8 h p q k
  simp only [Spec.norm, normRef, mean, ← hs]
  generalize hy : val_main_v68 (F := Ideal) x0 x2 x3 x4 x5 x6 x7 x8 = y
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, hy, val_main_cst, val_main_cst_13, val_main_cst_14, val_main_cst_15, val_main_cst_16]

/-- The normalised edge rows. -/
theorem edge_norm (x1 : (⟨S256x200x4, .i32⟩ : BufTy).Contents (Elt Ideal)) (x13 : (⟨S6x512, .f32⟩ : BufTy).Contents (Elt Ideal)) (x14 : (⟨S2x512, .f32⟩ : BufTy).Contents (Elt Ideal)) (x15 : (⟨S2x512, .f32⟩ : BufTy).Contents (Elt Ideal)) (x16 : (⟨S6x512, .f32⟩ : BufTy).Contents (Elt Ideal)) (x19 : (⟨S512, .f32⟩ : BufTy).Contents (Elt Ideal)) (x20 : (⟨S512, .f32⟩ : BufTy).Contents (Elt Ideal)) (h : ∀ p q i, x1 (ix3 p q i) = 0#32 ∨ x1 (ix3 p q i) = 1#32)
    (p : Fin 256) (q : Fin 200) (l : Fin 512) :
    val_main_v165 (F := Ideal) x1 x13 x14 x15 x16 x19 x20 (ix3 p q l) = Spec.norm (edgeRow x1 x13 x14 x15 x16 p q) x19 x20 l := by
  have hs : ∀ k, val_main_v141 (F := Ideal) x1 x13 x14 x15 x16 (ix3 p q k) = edgeRow x1 x13 x14 x15 x16 p q k := fun k => edge_sum x1 x13 x14 x15 x16 h p q k
  simp only [Spec.norm, normRef, mean, ← hs]
  generalize hy : val_main_v141 (F := Ideal) x1 x13 x14 x15 x16 = y
  pointwise [val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, hy, val_main_cst_25, val_main_cst_26, val_main_cst_27, val_main_cst_28, val_main_cst_29]

/-- The first projection of the node rows. -/
theorem start_proj (x0 : (⟨S256x200x7, .i32⟩ : BufTy).Contents (Elt Ideal)) (x2 : (⟨S17x512, .f32⟩ : BufTy).Contents (Elt Ideal)) (x3 : (⟨S7x512, .f32⟩ : BufTy).Contents (Elt Ideal)) (x4 : (⟨S2x512, .f32⟩ : BufTy).Contents (Elt Ideal)) (x5 : (⟨S8x512, .f32⟩ : BufTy).Contents (Elt Ideal)) (x6 : (⟨S2x512, .f32⟩ : BufTy).Contents (Elt Ideal)) (x7 : (⟨S4x512, .f32⟩ : BufTy).Contents (Elt Ideal)) (x8 : (⟨S7x512, .f32⟩ : BufTy).Contents (Elt Ideal)) (x9 : (⟨S512x512, .f32⟩ : BufTy).Contents (Elt Ideal)) (x10 : (⟨S512, .f32⟩ : BufTy).Contents (Elt Ideal)) (x17 : (⟨S512, .f32⟩ : BufTy).Contents (Elt Ideal)) (x18 : (⟨S512, .f32⟩ : BufTy).Contents (Elt Ideal)) (h : ∀ p q i, x0 (ix3 p q i) = 0#32 ∨ x0 (ix3 p q i) = 1#32)
    (p : Fin 256) (q : Fin 200) (l : Fin 512) :
    val_main_v97 (F := Ideal) x0 x2 x3 x4 x5 x6 x7 x8 x9 x10 x17 x18 (ix3 p q l) = proj (Spec.norm (nodeRow x0 x2 x3 x4 x5 x6 x7 x8 p q) x17 x18) x9 x10 l := by
  have hs : ∀ k, val_main_v92 (F := Ideal) x0 x2 x3 x4 x5 x6 x7 x8 x17 x18 (ix3 p q k) = Spec.norm (nodeRow x0 x2 x3 x4 x5 x6 x7 x8 p q) x17 x18 k :=
    fun k => node_norm x0 x2 x3 x4 x5 x6 x7 x8 x17 x18 h p q k
  simp only [proj, ← hs]
  generalize hy : val_main_v92 (F := Ideal) x0 x2 x3 x4 x5 x6 x7 x8 x17 x18 = y
  pointwise [val_main_v97, val_main_v96, val_main_v95, val_main_v94, val_main_v93, hy]

/-- The second projection of the node rows. -/
theorem end_proj (x0 : (⟨S256x200x7, .i32⟩ : BufTy).Contents (Elt Ideal)) (x2 : (⟨S17x512, .f32⟩ : BufTy).Contents (Elt Ideal)) (x3 : (⟨S7x512, .f32⟩ : BufTy).Contents (Elt Ideal)) (x4 : (⟨S2x512, .f32⟩ : BufTy).Contents (Elt Ideal)) (x5 : (⟨S8x512, .f32⟩ : BufTy).Contents (Elt Ideal)) (x6 : (⟨S2x512, .f32⟩ : BufTy).Contents (Elt Ideal)) (x7 : (⟨S4x512, .f32⟩ : BufTy).Contents (Elt Ideal)) (x8 : (⟨S7x512, .f32⟩ : BufTy).Contents (Elt Ideal)) (x11 : (⟨S512x512, .f32⟩ : BufTy).Contents (Elt Ideal)) (x12 : (⟨S512, .f32⟩ : BufTy).Contents (Elt Ideal)) (x17 : (⟨S512, .f32⟩ : BufTy).Contents (Elt Ideal)) (x18 : (⟨S512, .f32⟩ : BufTy).Contents (Elt Ideal)) (h : ∀ p q i, x0 (ix3 p q i) = 0#32 ∨ x0 (ix3 p q i) = 1#32)
    (p : Fin 256) (q : Fin 200) (l : Fin 512) :
    val_main_v102 (F := Ideal) x0 x2 x3 x4 x5 x6 x7 x8 x11 x12 x17 x18 (ix3 p q l) = proj (Spec.norm (nodeRow x0 x2 x3 x4 x5 x6 x7 x8 p q) x17 x18) x11 x12 l := by
  have hs : ∀ k, val_main_v92 (F := Ideal) x0 x2 x3 x4 x5 x6 x7 x8 x17 x18 (ix3 p q k) = Spec.norm (nodeRow x0 x2 x3 x4 x5 x6 x7 x8 p q) x17 x18 k :=
    fun k => node_norm x0 x2 x3 x4 x5 x6 x7 x8 x17 x18 h p q k
  simp only [proj, ← hs]
  generalize hy : val_main_v92 (F := Ideal) x0 x2 x3 x4 x5 x6 x7 x8 x17 x18 = y
  pointwise [val_main_v102, val_main_v101, val_main_v100, val_main_v99, val_main_v98, hy]

end Cert.ReferenceIdeal.Value

end

end
-- ==== Proof.RefRun.lean ====
module

public import proofs.«01_k».proof.Proof.RefValue
public import Idealize.ShloMosaic.Lib.Claim

/-! # What a launch of the reference leaves

The four results are the rows of `Cert.Spec` over the pairs, when the features are 0 or 1, and every argument is left
as it was. -/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Spec

variable (m : (ℓ : Loc nD τ sig) → Buf (Elt Ideal) ℓ)

/-- The normalised node row of a pair. -/
def nodeX (c : Dev nD) (p : Fin 256) (q : Fin 200) : Fin 512 → EReal :=
  Spec.norm (nodeRow (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) p q) (m ((c.tc : Thread nD τ).loc main_arg17)) (m ((c.tc : Thread nD τ).loc main_arg18))

/-- The first projection of a pair. -/
def startP (c : Dev nD) (p : Fin 256) (q : Fin 200) : Fin 512 → EReal :=
  proj (nodeX m c p q) (m ((c.tc : Thread nD τ).loc main_arg9)) (m ((c.tc : Thread nD τ).loc main_arg10))

/-- The second projection of a pair. -/
def endP (c : Dev nD) (p : Fin 256) (q : Fin 200) : Fin 512 → EReal :=
  proj (nodeX m c p q) (m ((c.tc : Thread nD τ).loc main_arg11)) (m ((c.tc : Thread nD τ).loc main_arg12))

/-- The normalised edge row of a pair. -/
def edgeX (c : Dev nD) (p : Fin 256) (q : Fin 200) : Fin 512 → EReal :=
  Spec.norm (edgeRow (m ((c.tc : Thread nD τ).loc main_arg1)) (m ((c.tc : Thread nD τ).loc main_arg13)) (m ((c.tc : Thread nD τ).loc main_arg14)) (m ((c.tc : Thread nD τ).loc main_arg15)) (m ((c.tc : Thread nD τ).loc main_arg16)) p q) (m ((c.tc : Thread nD τ).loc main_arg19)) (m ((c.tc : Thread nD τ).loc main_arg20))

set_option maxHeartbeats 1600000 in
/-- The run of the reference: the four results, and the arguments unchanged. -/
theorem run_rows (g : Dev nD → PrngReg)
    (h : ∀ (c : Dev nD) p q i, (m ((c.tc : Thread nD τ).loc main_arg0) : IVec S256x200x7 32) (ix3 p q i) = 0#32
      ∨ (m ((c.tc : Thread nD τ).loc main_arg0) : IVec S256x200x7 32) (ix3 p q i) = 1#32)
    (he : ∀ (c : Dev nD) p q i, (m ((c.tc : Thread nD τ).loc main_arg1) : IVec S256x200x4 32) (ix3 p q i) = 0#32
      ∨ (m ((c.tc : Thread nD τ).loc main_arg1) : IVec S256x200x4 32) (ix3 p q i) = 1#32) :
    θ_run defs (onTc (τ := τ) (main (F := Ideal))) ⟨m, fun _ => 0, g⟩ fun r => ∀ c : Dev nD,
      r.2.mem ((c.tc : Thread nD τ).loc main_v92) = rows (nodeX m c)
      ∧ r.2.mem ((c.tc : Thread nD τ).loc main_v97) = rows (startP m c)
      ∧ r.2.mem ((c.tc : Thread nD τ).loc main_v102) = rows (endP m c)
      ∧ r.2.mem ((c.tc : Thread nD τ).loc main_v165) = rows (edgeX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  refine (θ_run defs _ _).mono (fun r hr c => ?_) (run m g)
  obtain ⟨h1, h2, h3, h4, hargs⟩ := hr c
  refine ⟨h1.trans ((val_main_v92_eq _).trans ?_), h2.trans ((val_main_v97_eq _).trans ?_),
    h3.trans ((val_main_v102_eq _).trans ?_), h4.trans ((val_main_v165_eq _).trans ?_), hargs⟩
  · funext i; idx_vars i
    exact node_norm _ _ _ _ _ _ _ _ _ _ (h c) _ _ _
  · funext i; idx_vars i
    exact start_proj _ _ _ _ _ _ _ _ _ _ _ _ (h c) _ _ _
  · funext i; idx_vars i
    exact end_proj _ _ _ _ _ _ _ _ _ _ _ _ (h c) _ _ _
  · funext i; idx_vars i
    exact edge_norm _ _ _ _ _ _ _ (he c) _ _ _

end Cert.ReferenceIdeal.Value

end

end
-- ==== Proof.PreFacts.lean ====
module

public import proofs.«01_k».proof.Proof.Spec
public import proofs.«01_k».proof.Proof.Gen.Pre_binary_and_finite
public import Idealize.ShloMosaic.Lib.ReduceAll

/-! # What the precondition gives

The features are 0 or 1, and the rows 0 and 1 of every table are real numbers. -/

@[expose] public section

noncomputable section

open Idealize.ShloMosaic Idealize.SL.Sem

namespace Cert.Pre_binary_and_finite.Meaning

open Cert.Pre_binary_and_finite Cert.Pre_binary_and_finite.Gen Cert.Spec

instance : Subsingleton S_.Idx := ⟨fun a b => funext fun d => d.elim0⟩

/-- The infinity that the condition compares with. -/
theorem infinity : Ideal.ofBits .f32 0x7F800000#32 = ⊤ := by
  simp [Ideal.ofBits, Ideal.ieee]

/-- A number of magnitude below infinity is real. -/
theorem real_of_lt {a : EReal} (h : Ideal.cmp .olt (max a (-a)) (Ideal.ofBits .f32 0x7F800000#32) = 1#1) : ∃ r : ℝ, a = r := by
  rw [infinity] at h
  have hlt : max a (-a) < ⊤ := by
    by_contra hn
    simp [Ideal.cmp, hn] at h
  induction a with
  | bot => simp at hlt
  | top => simp at hlt
  | coe r => exact ⟨r, rfl⟩

/-- The condition's test of two rows. -/
abbrev finiteRows (t : FVec Ideal S2x512 .f32) : IVec S_ 1 :=
  Host.reduce IntOp.andi (cmpf .olt (Host.absf t) (broadcastInDim S2x512 ![] Facts.bcast_S_S2x512 (constant S_ .f32 0x7F800000#32)))
    (constantI S_ 1 1#1) Facts.reducesTo_S2x512_S_d0_1 Facts.h_S_

/-- A table of two rows that passes the test holds real numbers. -/
theorem two_rows (t : FVec Ideal S2x512 .f32) {o : S_.Idx} (h : finiteRows t o = 1#1) (j : Fin 2) (k : Fin 512) :
    ∃ r : ℝ, t (ix2 j k) = r :=
  real_of_lt (Host.reduce_andi_all _ _ _ _ o h (ix2 j k))

/-- A table whose first two rows pass the test holds real numbers there. -/
theorem first_rows {N : Nat} (t : FVec Ideal ⟨2, ![N, 512]⟩ .f32) (hs : (⟨2, ![N, 512]⟩ : Shape).Slices ![0, 0] S2x512) (hN : 2 ≤ N)
    {o : S_.Idx} (h : finiteRows (extractStridedSlice S2x512 ![0, 0] t hs) o = 1#1) (j : Fin 2) (k : Fin 512) :
    ∃ r : ℝ, t (ix2 (j.castLE hN) k) = r := by
  obtain ⟨r, hr⟩ := two_rows _ h j k
  refine ⟨r, hr ▸ congrArg t (funext fun a => Fin.ext ?_)⟩
  match a with
  | ⟨0, _⟩ => exact (Nat.zero_add _).symm
  | ⟨1, _⟩ => exact (Nat.zero_add _).symm

/-- A word that passes the test of the features is 0 or 1. -/
theorem zero_or_one {w : BitVec 32} (h : IntOp.ori (IntOp.cmpi .eq w 0#32) (IntOp.cmpi .eq w 1#32) = 1#1) : w = 0#32 ∨ w = 1#32 :=
  (IntOp.ori_eq_one.1 h).imp IntOp.cmpi_eq.1 IntOp.cmpi_eq.1

/-- The precondition read: 0/1 features, and real rows 0 and 1 in every table. -/
theorem meaning (x0 : IVec S256x200x7 32) (x1 : IVec S256x200x4 32) (x2 : FVec Ideal S17x512 .f32) (x3 : FVec Ideal S7x512 .f32) (x4 : FVec Ideal S2x512 .f32) (x5 : FVec Ideal S8x512 .f32) (x6 : FVec Ideal S2x512 .f32) (x7 : FVec Ideal S4x512 .f32) (x8 : FVec Ideal S7x512 .f32)
    (x9 : FVec Ideal S512x512 .f32) (x10 : FVec Ideal S512 .f32) (x11 : FVec Ideal S512x512 .f32) (x12 : FVec Ideal S512 .f32)
    (x13 : FVec Ideal S6x512 .f32) (x14 : FVec Ideal S2x512 .f32) (x15 : FVec Ideal S2x512 .f32) (x16 : FVec Ideal S6x512 .f32)
    (x17 x18 x19 x20 : FVec Ideal S512 .f32)
    (h : fn (F := Ideal) x0 x1 x2 x3 x4 x5 x6 x7 x8 x9 x10 x11 x12 x13 x14 x15 x16 x17 x18 x19 x20 = fun _ => 1#1) :
    (∀ p q i, x0 (ix3 p q i) = 0#32 ∨ x0 (ix3 p q i) = 1#32) ∧ (∀ p q i, x1 (ix3 p q i) = 0#32 ∨ x1 (ix3 p q i) = 1#32)
      ∧ (∀ j k i, ∃ r : ℝ, nodeTab x2 x3 x4 x5 x6 x7 x8 j k i = r)
      ∧ (∀ j k i, ∃ r : ℝ, edgeTab x13 x14 x15 x16 j k i = r) := by
  have h := congrFun h (fun d => d.elim0)
  simp only [fn, fn_part1, fn_part2, fn_part3, fn_part4, andi, IntOp.andi_eq_one] at h
  obtain ⟨⟨⟨⟨⟨⟨⟨⟨⟨⟨⟨⟨h0, h1⟩, h2⟩, h3⟩, h4⟩, h5⟩, h6⟩, h7⟩, h8⟩, h13⟩, h14⟩, h15⟩, h16⟩ := h
  refine ⟨fun p q i => ?_, fun p q i => ?_, fun j k i => ?_, fun j k i => ?_⟩
  · exact zero_or_one (Host.reduce_andi_all _ _ _ _ _ h0 (ix3 p q i))
  · exact zero_or_one (Host.reduce_andi_all _ _ _ _ _ h1 (ix3 p q i))
  · match i with
    | 0 => exact first_rows x2 _ (by decide) h2 j k
    | 1 => exact first_rows x3 _ (by decide) h3 j k
    | 2 => exact two_rows x4 h4 j k
    | 3 => exact first_rows x5 _ (by decide) h5 j k
    | 4 => exact two_rows x6 h6 j k
    | 5 => exact first_rows x7 _ (by decide) h7 j k
    | 6 => exact first_rows x8 _ (by decide) h8 j k
  · match i with
    | 0 => exact first_rows x13 _ (by decide) h13 j k
    | 1 => exact two_rows x14 h14 j k
    | 2 => exact two_rows x15 h15 j k
    | 3 => exact first_rows x16 _ (by decide) h16 j k

end Cert.Pre_binary_and_finite.Meaning

end

end
-- ==== Proof.lean ====
/- The proof of the claims about the kernel: each program runs and leaves its arguments as they were, the kernel read over
   the extended reals is the kernel, and that kernel and the reference end with the same four results. The two runs are
   Proof/KernelRun.lean and Proof/RefRun.lean; the formula both are compared with is Proof/Spec.lean. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_binary_and_finite
public import proofs.«01_k».proof.Proof.KernelRun
public import proofs.«01_k».proof.Proof.RefRun
public import proofs.«01_k».proof.Proof.PreFacts

@[expose] public section

set_option maxRecDepth 16384

noncomputable section

namespace Cert.Proof

open Idealize.ShloMosaic Idealize.ShloMosaic.TcCoe Idealize.SL.Sem Cert.Spec

/-- What the precondition says of the launch of the kernel. -/
theorem good (m : (ℓ : Loc Cert.KernelIdeal.nD Cert.KernelIdeal.τ Cert.KernelIdeal.sig) → Buf (Elt Ideal) ℓ)
    (h : Pre_KernelIdeal_binary_and_finite m) (c : Dev Cert.KernelIdeal.nD) : Cert.KernelIdeal.Value.Good m c := by
  obtain ⟨h0, h1, h2, h3⟩ := Cert.Pre_binary_and_finite.Meaning.meaning _ _ _ _ _ _ _ _ _ _ _ _ _ _ _ _ _ _ _ _ _ (h c)
  exact ⟨h0, h1, h2, h3⟩

set_option maxHeartbeats 1600000 in
/-- `Cert.algebraic_KernelIdeal_ReferenceIdeal_pre_binary_and_finite`: both programs end with the rows of `Cert.Spec`. -/
theorem same_results : Cert.algebraic_KernelIdeal_ReferenceIdeal_pre_binary_and_finite := by
  intro m g m' g' hpre hagree
  have hg := good m hpre
  refine ⟨fun c => rows (Cert.KernelIdeal.Value.nodeX m c), fun c => rows (Cert.KernelIdeal.Value.startP m c),
    fun c => rows (Cert.KernelIdeal.Value.endP m c), fun c => rows (Cert.KernelIdeal.Value.edgeX m c),
    Cert.KernelIdeal.Value.run m g hg, ?_⟩
  refine (θ_run Cert.ReferenceIdeal.defs _ _).mono (fun r hr c => ?_) (Cert.ReferenceIdeal.Value.run_rows m' g' (fun c p q i => ?_) (fun c p q i => ?_))
  · obtain ⟨h1, h2, h3, h4, hargs⟩ := hr c
    obtain ⟨a0, a1, a2, a3, a4, a5, a6, a7, a8, a9, a10, a11, a12, a13, a14, a15, a16, a17, a18, a19, a20⟩ := hagree c
    have en : Cert.ReferenceIdeal.Value.nodeX m' c = Cert.KernelIdeal.Value.nodeX m c := by
      unfold Cert.ReferenceIdeal.Value.nodeX Cert.KernelIdeal.Value.nodeX
      rw [a0, a2, a3, a4, a5, a6, a7, a8, a17, a18]
    have es : Cert.ReferenceIdeal.Value.startP m' c = Cert.KernelIdeal.Value.startP m c := by
      unfold Cert.ReferenceIdeal.Value.startP Cert.KernelIdeal.Value.startP
      rw [en, a9, a10]
    have ee : Cert.ReferenceIdeal.Value.endP m' c = Cert.KernelIdeal.Value.endP m c := by
      unfold Cert.ReferenceIdeal.Value.endP Cert.KernelIdeal.Value.endP
      rw [en, a11, a12]
    have ed : Cert.ReferenceIdeal.Value.edgeX m' c = Cert.KernelIdeal.Value.edgeX m c := by
      unfold Cert.ReferenceIdeal.Value.edgeX Cert.KernelIdeal.Value.edgeX
      rw [a1, a13, a14, a15, a16, a19, a20]
    exact ⟨h1.trans (congrArg rows en), h2.trans (congrArg rows es), h3.trans (congrArg rows ee), h4.trans (congrArg rows ed), hargs⟩
  · rw [(hagree c).1]; exact (hg c).node p q i
  · rw [(hagree c).2.1]; exact (hg c).edge p q i

set_option maxHeartbeats 1600000 in
/-- The reference runs, changes no argument, and leaves no semaphore up: it declares none. -/
theorem reference_frame : Cert.quiescent_ReferenceIdeal := by
  intro m g _
  exact (θ_run Cert.ReferenceIdeal.defs _ _).mono (fun r h => ⟨fun c => (h c).2.2.2.2, sem_eq_zero_of_no_sems (by decide) r.2⟩)
    (Cert.ReferenceIdeal.Value.run (F := Ideal) m g)

/-- The claims. -/
theorem claim : Cert.Claim :=
  ⟨Cert.Kernel.Gen.facts, Cert.KernelIdeal.Gen.facts, Cert.ReferenceIdeal.Gen.facts, Cert.Pre_binary_and_finite.Gen.facts,
    fun m g _ => Cert.Kernel.Gen.frame m g, fun m g _ => Cert.KernelIdeal.Gen.frame m g,
    fun m g _ => Cert.KernelIdeal.Gen.frame m g, reference_frame, fun m g _ => reference_frame m g trivial, trivial,
    same_results⟩

end Cert.Proof

end
